-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨2, ![8192, 1024]⟩ ⟨2, ![32768, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x8192 : Shape := ⟨2, ![1024, 8192]⟩
abbrev S8x128x8192 : Shape := ⟨3, ![8, 128, 8192]⟩
abbrev S8x128x32768 : Shape := ⟨3, ![8, 128, 32768]⟩
abbrev S128x8192 : Shape := ⟨2, ![128, 8192]⟩
abbrev S128x32768 : Shape := ⟨2, ![128, 32768]⟩
abbrev S3 : Shape := ⟨1, ![3]⟩
abbrev S_ : Shape := ⟨0, ![]⟩
abbrev S1x128x8192 : Shape := ⟨3, ![1, 128, 8192]⟩
abbrev S1x8192 : Shape := ⟨2, ![1, 8192]⟩
abbrev S1 : Shape := ⟨1, ![1]⟩
abbrev S1x128x32768 : Shape := ⟨3, ![1, 128, 32768]⟩
abbrev S1x32768 : Shape := ⟨2, ![1, 32768]⟩

abbrev nBuf : Space → Nat
  | .hbm => 7
  | .vmem => 2
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8x128x8192, .bf16⟩
  | .hbm, ⟨3, _⟩ => ⟨S8x128x8192, .bf16⟩
  | .hbm, ⟨4, _⟩ => ⟨S8x128x32768, .bf16⟩
  | .hbm, ⟨5, _⟩ => ⟨S1024x8192, .bf16⟩
  | .hbm, ⟨6, _⟩ => ⟨S8192x1024, .bf16⟩
  | .local _ .vmem, ⟨0, _⟩ => ⟨S128x8192, .bf16⟩
  | .local _ .vmem, ⟨1, _⟩ => ⟨S128x32768, .bf16⟩
  | _, _ => ⟨S8192x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3_0 : Ref sig .tc := ⟨.hbm, 3, rfl⟩
abbrev main_v3_1 : Ref sig .tc := ⟨.hbm, 4, rfl⟩
abbrev main_v4 : Ref sig .tc := ⟨.hbm, 5, rfl⟩
abbrev main_v5 : Ref sig .tc := ⟨.hbm, 6, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
@[reducible] def k0_t1_loop : Scf.Loop 32 :=
  let c0_i32_27 : BitVec 32 := 0#32
  let c8_i32 : BitVec 32 := 8#32
  let v42 : BitVec 32 := Scalar.addi c0_i32_27 c8_i32
  let c1_i32_28 : BitVec 32 := 1#32
  ⟨c0_i32_27, v42, c1_i32_28⟩
def k0_off1 (k0_t1 : Fin k0_t1_loop.trips) : Fin 3 → Nat :=
  let c0_i32_27 : BitVec 32 := 0#32
  let c1_i32_28 : BitVec 32 := 1#32
  let arg9 : BitVec 32 := Scf.iv c0_i32_27 c1_i32_28 k0_t1
  let c0_i32_118 : BitVec 32 := 0#32
  let c0_i32_119 : BitVec 32 := 0#32
  ![arg9.toNat, 0, 0]
@[reducible] def k0_t2_loop : Scf.Loop 32 :=
  let c0_i32_123 : BitVec 32 := 0#32
  let c13_i32 : BitVec 32 := 13#32
  let v103 : BitVec 32 := Scalar.addi c0_i32_123 c13_i32
  let c1_i32_124 : BitVec 32 := 1#32
  ⟨c0_i32_123, v103, c1_i32_124⟩
@[reducible] def k0_t3_loop (k0_t2 : Fin k0_t2_loop.trips) : Scf.Loop 32 :=
  let c0_i32_135 : BitVec 32 := 0#32
  let c0_i32_123 : BitVec 32 := 0#32
  let c1_i32_124 : BitVec 32 := 1#32
  let arg10 : BitVec 32 := Scf.iv c0_i32_123 c1_i32_124 k0_t2
  let c1_i32_134 : BitVec 32 := 1#32
  let v114 : BitVec 32 := Scalar.addi arg10 c1_i32_134
  let v115 : BitVec 32 := Scalar.subi v114 c0_i32_135
  let c1_i32_136 : BitVec 32 := 1#32
  let v117 : BitVec 32 := Scalar.divsi v115 c1_i32_136
  let v118 : BitVec 32 := Scalar.muli v117 c1_i32_136
  let v119 : BitVec 32 := Scalar.addi c0_i32_135 v118
  let c1_i32_137 : BitVec 32 := 1#32
  ⟨c0_i32_135, v119, c1_i32_137⟩
@[reducible] def k0_t4_loop (k0_t2 : Fin k0_t2_loop.trips) : Scf.Loop 32 :=
  let c0_i32_135 : BitVec 32 := 0#32
  let c0_i32_123 : BitVec 32 := 0#32
  let c1_i32_124 : BitVec 32 := 1#32
  let arg10 : BitVec 32 := Scf.iv c0_i32_123 c1_i32_124 k0_t2
  let c1_i32_134 : BitVec 32 := 1#32
  let v114 : BitVec 32 := Scalar.addi arg10 c1_i32_134
  let v115 : BitVec 32 := Scalar.subi v114 c0_i32_135
  let c1_i32_136 : BitVec 32 := 1#32
  let v117 : BitVec 32 := Scalar.divsi v115 c1_i32_136
  let v118 : BitVec 32 := Scalar.muli v117 c1_i32_136
  let v119 : BitVec 32 := Scalar.addi c0_i32_135 v118
  let v116 : BitVec 32 := Scalar.addi c0_i32_135 v115
  let c1_i32_138 : BitVec 32 := 1#32
  ⟨v119, v116, c1_i32_138⟩
def k0_off2 (k0_t1 : Fin k0_t1_loop.trips) : Fin 3 → Nat :=
  let c0_i32_27 : BitVec 32 := 0#32
  let c1_i32_28 : BitVec 32 := 1#32
  let arg9 : BitVec 32 := Scf.iv c0_i32_27 c1_i32_28 k0_t1
  let c0_i32_128 : BitVec 32 := 0#32
  let c0_i32_129 : BitVec 32 := 0#32
  ![arg9.toNat, 0, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_32 : BitVec 32 := 1#32
  let v43 : BitVec 32 := Scalar.muli v25 c1_i32_32
  let v44 : BitVec 32 := Scalar.addi c0_i32_33 v43
  v44.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_60 : BitVec 32 := 1#32
  let v61 : BitVec 32 := Scalar.muli v25 c1_i32_60
  let v62 : BitVec 32 := Scalar.addi c0_i32_61 v61
  v62.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_88 : BitVec 32 := 1#32
  let v79 : BitVec 32 := Scalar.muli v25 c1_i32_88
  let v80 : BitVec 32 := Scalar.addi c0_i32_89 v79
  v80.toNat
@[reducible] def k0_t5_loop : Scf.Loop 32 :=
  let c0_i32_114 : BitVec 32 := 0#32
  let c8_i32_115 : BitVec 32 := 8#32
  let v97 : BitVec 32 := Scalar.addi c0_i32_114 c8_i32_115
  let c1_i32_116 : BitVec 32 := 1#32
  ⟨c0_i32_114, v97, c1_i32_116⟩
def k0_off3 (k0_t5 : Fin k0_t5_loop.trips) : Fin 3 → Nat :=
  let c0_i32_114 : BitVec 32 := 0#32
  let c1_i32_116 : BitVec 32 := 1#32
  let arg9 : BitVec 32 := Scf.iv c0_i32_114 c1_i32_116 k0_t5
  let c0_i32_118 : BitVec 32 := 0#32
  let c0_i32_119 : BitVec 32 := 0#32
  ![arg9.toNat, 0, 0]
@[reducible] def k0_t6_loop : Scf.Loop 32 :=
  let c13_i32 : BitVec 32 := 13#32
  let c2_i32_123 : BitVec 32 := 2#32
  let v103 : BitVec 32 := Scalar.addi c13_i32 c2_i32_123
  let c1_i32_124 : BitVec 32 := 1#32
  ⟨c13_i32, v103, c1_i32_124⟩
@[reducible] def k0_t7_loop (k0_t6 : Fin k0_t6_loop.trips) : Scf.Loop 32 :=
  let c0_i32_138 : BitVec 32 := 0#32
  let c13_i32 : BitVec 32 := 13#32
  let c1_i32_124 : BitVec 32 := 1#32
  let arg10 : BitVec 32 := Scf.iv c13_i32 c1_i32_124 k0_t6
  let c1_i32_137 : BitVec 32 := 1#32
  let v117 : BitVec 32 := Scalar.addi arg10 c1_i32_137
  let v118 : BitVec 32 := Scalar.subi v117 c0_i32_138
  let c1_i32_139 : BitVec 32 := 1#32
  let v120 : BitVec 32 := Scalar.divsi v118 c1_i32_139
  let v121 : BitVec 32 := Scalar.muli v120 c1_i32_139
  let v122 : BitVec 32 := Scalar.addi c0_i32_138 v121
  let c1_i32_140 : BitVec 32 := 1#32
  ⟨c0_i32_138, v122, c1_i32_140⟩
@[reducible] def k0_t8_loop (k0_t6 : Fin k0_t6_loop.trips) : Scf.Loop 32 :=
  let c0_i32_138 : BitVec 32 := 0#32
  let c13_i32 : BitVec 32 := 13#32
  let c1_i32_124 : BitVec 32 := 1#32
  let arg10 : BitVec 32 := Scf.iv c13_i32 c1_i32_124 k0_t6
  let c1_i32_137 : BitVec 32 := 1#32
  let v117 : BitVec 32 := Scalar.addi arg10 c1_i32_137
  let v118 : BitVec 32 := Scalar.subi v117 c0_i32_138
  let c1_i32_139 : BitVec 32 := 1#32
  let v120 : BitVec 32 := Scalar.divsi v118 c1_i32_139
  let v121 : BitVec 32 := Scalar.muli v120 c1_i32_139
  let v122 : BitVec 32 := Scalar.addi c0_i32_138 v121
  let v119 : BitVec 32 := Scalar.addi c0_i32_138 v118
  let c1_i32_141 : BitVec 32 := 1#32
  ⟨v122, v119, c1_i32_141⟩
def k0_off4 (k0_t5 : Fin k0_t5_loop.trips) : Fin 3 → Nat :=
  let c0_i32_114 : BitVec 32 := 0#32
  let c1_i32_116 : BitVec 32 := 1#32
  let arg9 : BitVec 32 := Scf.iv c0_i32_114 c1_i32_116 k0_t5
  let c0_i32_129 : BitVec 32 := 0#32
  let c0_i32_130 : BitVec 32 := 0#32
  ![arg9.toNat, 0, 0]
def k0_off5 (d0 : Dev nD) : Fin 2 → Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_128 : BitVec 32 := 8192#32
  let v108 : BitVec 32 := Scalar.muli v2 c8192_i32_128
  ![0, v108.toNat]
-- ==== ReferenceIdeal.lean ====
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S32768x1024, .f32⟩
  | .hbm, ⟨3, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Vals.lean ====
/-
  WHAT THE DISTRIBUTED SORT COMPUTES, as functions of the devices' inputs, over any float values.

  * `localSort p v`: what one device's first loop makes of one chunk `[128, 8192]` — the thirteen levels of the bitonic
    network along axis 1, the direction flipped when the parity word `p` is 1.
  * `mergeTail v`: what the second loop makes of one gathered chunk `[128, 32768]` — the last two levels.
  * `gath X c`: what device `c` holds gathered: at slot `p` of the last axis the sorted block of device `c - p`.
  * `outv X c`: what device `c` stores: its quarter of the merged rows.
  The printed inner loops return these folds (`t2_eq`, `t6_eq`).
-/
module

public import proofs.«01_k».proof.Proof.Gen.KernelIdeal.Skeleton
public import Idealize.ShloMosaic.Lib.Exec.Context
public import Idealize.ShloMosaic.Lib.ValueLayout
public import Idealize.ShloMosaic.Lib.Pipeline.Value

@[expose] public section

noncomputable section

namespace Cert.KernelIdeal.Sorted

open Idealize.ShloMosaic Idealize.ShloMosaic.TcCoe Idealize.SL.Sem
open Idealize.ShloMosaic.ValueIdx
open Cert.KernelIdeal.Gen

variable {F : FTy → Type} [FloatOps F]

instance : Cert.KernelIdeal.Facts := Cert.KernelIdeal.Gen.facts

/-- Device `c`'s right neighbour on the ring of four. -/
def rt (c : Dev nD) : Dev nD := ⟨(c.val + 1) % 4, Nat.mod_lt _ (by decide)⟩
/-- Device `c`'s left neighbour. -/
def lt (c : Dev nD) : Dev nD := ⟨(c.val + 3) % 4, Nat.mod_lt _ (by decide)⟩
theorem lt_rt (c : Dev nD) : lt (rt c) = c := by revert c; decide
theorem rt_lt (c : Dev nD) : rt (lt c) = c := by revert c; decide

/-- The device `p` places to the left of `c`. -/
def back (c : Dev nD) (p : ℕ) : Dev nD := ⟨(c.val + 4 - p % 4) % 4, Nat.mod_lt _ (by decide)⟩

/-- The parity word of a device: 1 when it is odd. -/
def par (d : Dev nD) : BitVec 32 := BitVec.ofNat 32 (d.val % 2)

/-- A chunk of 128 rows by 8192 columns; and of 128 rows by 32768. -/
abbrev Chunk (F : FTy → Type) : Type := Vec F S128x8192 .bf16
abbrev Wide (F : FTy → Type) : Type := Vec F S128x32768 .bf16

/-- One level of the local sort: its stages in order. -/
def level (p : BitVec 32) (k : Fin k0_t2_loop.trips) (v : Chunk F) : Chunk F :=
  Scf.fold (fun k' acc => k0_pay2 p k k' acc) (Scf.fold (fun k' acc => k0_pay1 p k k' acc) v)

/-- The local sort of one chunk. -/
def localSort (p : BitVec 32) (v : Chunk F) : Chunk F := Scf.fold (fun k acc => level p k acc) v

/-- One level of the merge. -/
def wideLevel (k : Fin k0_t6_loop.trips) (v : Wide F) : Wide F :=
  Scf.fold (fun k' acc => k0_pay5 k k' acc) (Scf.fold (fun k' acc => k0_pay4 k k' acc) v)

/-- The two levels of the merge. -/
def mergeTail (v : Wide F) : Wide F := Scf.fold (fun k acc => wideLevel k acc) v

/-- Chunk `k` of a device's block. -/
def chunkOf (X : S8x128x8192.Idx → Elt F .bf16) (k : Fin 8) : Chunk F := fun j => X (ix3 k (j 0) (j 1))
/-- Chunk `k` of a gathered block. -/
def wideOf (X : S8x128x32768.Idx → Elt F .bf16) (k : Fin 8) : Wide F := fun j => X (ix3 k (j 0) (j 1))

/-- Device `d`'s sorted block. -/
def sortedBlock (X : Dev nD → S8x128x8192.Idx → Elt F .bf16) (d : Dev nD) : S8x128x8192.Idx → Elt F .bf16 :=
  fun i => localSort (par d) (chunkOf (X d) (i 0)) (ix2 (i 1) (i 2))

/-- What device `c` has gathered: position `q` of the last axis is position `q % 8192` of the sorted block of the device
    `q / 8192` places to the left. -/
def gath (X : Dev nD → S8x128x8192.Idx → Elt F .bf16) (c : Dev nD) : S8x128x32768.Idx → Elt F .bf16 :=
  fun i => sortedBlock X (back c ((i 2).val / 8192)) (ix3 (i 0) (i 1) ⟨(i 2).val % 8192, Nat.mod_lt _ (by decide)⟩)

/-- What device `c` stores: columns `8192 c .. 8192 c + 8191` of the merged rows. -/
def outv (X : Dev nD → S8x128x8192.Idx → Elt F .bf16) (c : Dev nD) : S8x128x8192.Idx → Elt F .bf16 :=
  fun i => mergeTail (wideOf (gath X c) (i 0)) (ix2 (i 1) ⟨8192 * c.val + (i 2).val, by
    have h1 : c.val < 4 := c.isLt
    have h2 : (i 2).val < 8192 := (i 2).isLt
    omega⟩)

section Loops

variable (arg0 : Memref sig .tc .hbm S8x128x8192 .bf16) (harg0 : arg0.IsWhole) (arg1 : Memref sig .tc .hbm S8x128x8192 .bf16)
  (harg1 : arg1.IsWhole) (arg2 : Memref sig .tc .hbm S8x128x32768 .bf16) (harg2 : arg2.IsWhole)
  (arg3 : Memref sig .tc .vmem S128x8192 .bf16) (harg3 : arg3.IsWhole) (arg4 : Memref sig .tc .vmem S128x32768 .bf16)
  (harg4 : arg4.IsWhole) (arg5 arg6 : DmaSems sig S3) (arg7 arg8 : DmaSems sig S_) (d0 : Dev nD)

/-- A trip of the local sort's loop over levels returns the level. -/
theorem t2_body_eq (v14 v25 p : BitVec 32) (k : Fin k0_t2_loop.trips) (v : Chunk F) :
    k0_t2_body arg0 harg0 arg1 harg1 arg2 harg2 arg3 harg3 arg4 harg4 arg5 arg6 arg7 arg8 d0 v14 v25 p k v
      = .ret (level p k v) := by
  unfold k0_t2_body level
  exact (Scf.for_pure_bind _ _ _ _ _ _ (fun k' acc => k0_pay1 p k k' acc) (fun _ _ => rfl) _).trans
    (Scf.for_pure _ _ _ _ _ _ (fun k' acc => k0_pay2 p k k' acc) (fun _ _ => rfl))

/-- The loop over levels returns the local sort. -/
theorem t2_eq (v14 v25 p : BitVec 32) (v : Chunk F) :
    Scf.Loop.for k0_t2_loop k0_t2_ok v
        (k0_t2_body arg0 harg0 arg1 harg1 arg2 harg2 arg3 harg3 arg4 harg4 arg5 arg6 arg7 arg8 d0 v14 v25 p)
      = .ret (localSort p v) :=
  Scf.for_pure _ _ _ _ _ _ (fun k acc => level p k acc)
    fun k acc => t2_body_eq arg0 harg0 arg1 harg1 arg2 harg2 arg3 harg3 arg4 harg4 arg5 arg6 arg7 arg8 d0 v14 v25 p k acc

/-- A trip of the merge's loop over levels returns the level. -/
theorem t6_body_eq (v2 v25 : BitVec 32) (k : Fin k0_t6_loop.trips) (v : Wide F) :
    k0_t6_body arg0 harg0 arg1 harg1 arg2 harg2 arg3 harg3 arg4 harg4 arg5 arg6 arg7 arg8 d0 v2 v25 k v
      = .ret (wideLevel k v) := by
  unfold k0_t6_body wideLevel
  exact (Scf.for_pure_bind _ _ _ _ _ _ (fun k' acc => k0_pay4 k k' acc) (fun _ _ => rfl) _).trans
    (Scf.for_pure _ _ _ _ _ _ (fun k' acc => k0_pay5 k k' acc) (fun _ _ => rfl))

/-- The merge's loop over levels returns the two levels. -/
theorem t6_eq (v2 v25 : BitVec 32) (v : Wide F) :
    Scf.Loop.for k0_t6_loop k0_t6_ok v
        (k0_t6_body arg0 harg0 arg1 harg1 arg2 harg2 arg3 harg3 arg4 harg4 arg5 arg6 arg7 arg8 d0 v2 v25)
      = .ret (mergeTail v) :=
  Scf.for_pure _ _ _ _ _ _ (fun k acc => wideLevel k acc)
    fun k acc => t6_body_eq arg0 harg0 arg1 harg1 arg2 harg2 arg3 harg3 arg4 harg4 arg5 arg6 arg7 arg8 d0 v2 v25 k acc

end Loops

/-- The value stored back is the value computed. -/
theorem pay3_eq (v : Chunk F) : k0_pay3 v = v := shapeCast_self _ _
theorem pay6_eq (v : Wide F) : k0_pay6 v = v := shapeCast_self _ _

/-! ## The offsets, the devices addressed and the parity word, as the kernel computes them -/

theorem trips1 : k0_t1_loop.trips = 8 := by decide
theorem trips5 : k0_t5_loop.trips = 8 := by decide

/-- The trip of the first loop as a chunk's number. -/
def ch1 (k : Fin k0_t1_loop.trips) : Fin 8 := ⟨k.val, trips1 ▸ k.isLt⟩
def ch5 (k : Fin k0_t5_loop.trips) : Fin 8 := ⟨k.val, trips5 ▸ k.isLt⟩

theorem off1_eq (k : Fin k0_t1_loop.trips) : k0_off1 k = ![k.val, 0, 0] := by revert k; decide
theorem off2_eq (k : Fin k0_t1_loop.trips) : k0_off2 k = ![k.val, 0, 0] := by revert k; decide
theorem off3_eq (k : Fin k0_t5_loop.trips) : k0_off3 k = ![k.val, 0, 0] := by revert k; decide
theorem off4_eq (k : Fin k0_t5_loop.trips) : k0_off4 k = ![k.val, 0, 0] := by revert k; decide
theorem off5_eq (d : Dev nD) : k0_off5 d = ![0, 8192 * d.val] := by revert d; decide

theorem dev1_eq (c : Dev nD) : (⟨k0_dev1 c, k0_dev1_lt c⟩ : Dev nD) = lt c := by revert c; decide
theorem dev2_eq (c : Dev nD) : (⟨k0_dev2 c, k0_dev2_lt c⟩ : Dev nD) = rt c := by revert c; decide
theorem dev3_eq (c : Dev nD) : (⟨k0_dev3 c, k0_dev3_lt c⟩ : Dev nD) = rt c := by revert c; decide
theorem dev4_eq (c : Dev nD) : (⟨k0_dev4 c, k0_dev4_lt c⟩ : Dev nD) = rt c := by revert c; decide
theorem dev5_eq (c : Dev nD) : (⟨k0_dev5 c, k0_dev5_lt c⟩ : Dev nD) = rt c := by revert c; decide

end Cert.KernelIdeal.Sorted

end
-- ==== Proof.Views.lean ====
/-
  THE WINDOWS THE KERNEL'S COPIES NAME: which elements each covers, and what a copy through it reads or writes.

  * `inC k`: chunk `k` of the input; `oC k`: chunk `k` of the output.
  * `gW k`: columns 0 to 8191 of chunk `k` of the gathering buffer; `gR k`: the whole of its chunk `k`.
  * `slab h`: columns `8192 h` to `8192 h + 8191` of every chunk of the gathering buffer, `h = 0, 1, 2, 3`.
  * `sQ d`: columns `8192 d` to `8192 d + 8191` of the wide scratch.
-/
module

public import proofs.«01_k».proof.Proof.Vals
public import Idealize.ShloMosaic.Lib.Pipeline.ValueKit.Geometry

@[expose] public section

noncomputable section

namespace Cert.KernelIdeal.Sorted

open Idealize.ShloMosaic Idealize.ShloMosaic.TcCoe Idealize.SL.Sem
open Idealize.ShloMosaic.ValueIdx
open Cert.KernelIdeal.Gen

variable {F : FTy → Type} [FloatOps F]

/-- The input, the output, the gathering buffer and the two scratch buffers, whole. -/
abbrev xM : Memref sig .tc .hbm S8x128x8192 .bf16 := Memref.whole main_v2
abbrev oM : Memref sig .tc .hbm S8x128x8192 .bf16 := Memref.whole main_v3_0
abbrev gM : Memref sig .tc .hbm S8x128x32768 .bf16 := Memref.whole main_v3_1
abbrev aM : Memref sig .tc .vmem S128x8192 .bf16 := Memref.whole cc0_scratch0
abbrev bM : Memref sig .tc .vmem S128x32768 .bf16 := Memref.whole cc0_scratch1

/-- The windows, as the kernel slices them. -/
abbrev inC (k : Fin k0_t1_loop.trips) : Memref sig .tc .hbm S128x8192 .bf16 :=
  (xM.slice (Rect.unit (s := S8x128x8192) (k0_off1 k) S1x128x8192.size (k0_off1_inb k)) (fun _ => rfl)).squeeze S128x8192
    squeezes_S1x128x8192_S128x8192
abbrev gW (k : Fin k0_t1_loop.trips) : Memref sig .tc .hbm S128x8192 .bf16 :=
  (gM.slice (Rect.unit (s := S8x128x32768) (k0_off2 k) S1x128x8192.size (k0_off2_inb k)) (fun _ => rfl)).squeeze S128x8192
    squeezes_S1x128x8192_S128x8192
abbrev gR (k : Fin k0_t5_loop.trips) : Memref sig .tc .hbm S128x32768 .bf16 :=
  (gM.slice (Rect.unit (s := S8x128x32768) (k0_off3 k) S1x128x32768.size (k0_off3_inb k)) (fun _ => rfl)).squeeze S128x32768
    squeezes_S1x128x32768_S128x32768
abbrev oC (k : Fin k0_t5_loop.trips) : Memref sig .tc .hbm S128x8192 .bf16 :=
  (oM.slice (Rect.unit (s := S8x128x8192) (k0_off4 k) S1x128x8192.size (k0_off4_inb k)) (fun _ => rfl)).squeeze S128x8192
    squeezes_S1x128x8192_S128x8192
abbrev sQ (d : Dev nD) : Memref sig .tc .vmem S128x8192 .bf16 :=
  bM.slice (Rect.unit (s := S128x32768) (k0_off5 d) S128x8192.size (k0_off5_inb d)) (fun _ => rfl)

/-- The first column of slab `h`. -/
def slabOff : Fin 4 → ℕ | 0 => 0 | 1 => 8192 | 2 => 16384 | 3 => 24576
theorem slabOff_eq (h : Fin 4) : slabOff h = 8192 * h.val := by revert h; decide
theorem slab_inb (h : Fin 4) : ∀ a, (![0, 0, slabOff h] : Fin 3 → ℕ) a + S8x128x8192.size a ≤ S8x128x32768.size a := by
  revert h; decide
abbrev slab (h : Fin 4) : Memref sig .tc .hbm S8x128x8192 .bf16 :=
  gM.slice (Rect.unit (s := S8x128x32768) ![0, 0, slabOff h] S8x128x8192.size (slab_inb h)) (fun _ => rfl)

/-! ## Where a window's element lies -/

/-- A row and column of a window that drops a leading unit axis lie in the sliced array at the slice's row block. -/
theorem chunk_emb {A B C C' : ℕ} (off : Fin 3 → ℕ)
    (inb : ∀ a, off a + (![1, B, C'] : Fin 3 → ℕ) a ≤ (⟨3, ![A, B, C]⟩ : Shape).size a)
    (hn : (⟨2, ![B, C']⟩ : Shape).numel = (⟨3, ![1, B, C']⟩ : Shape).numel)
    (k : Fin A) (hoff : off = ![k.val, 0, 0]) (hC : C' ≤ C) (x : Fin B) (y : Fin C') :
    (Rect.unit (s := ⟨3, ![A, B, C]⟩) off ![1, B, C'] inb).emb (Shape.reshapeEquiv hn (ix2 x y))
      = ix3 k x ⟨y.val, lt_of_lt_of_le y.isLt hC⟩ := by
  subst hoff
  rw [reshapeEquiv_ix2_1ab]
  funext a
  apply Fin.ext
  rw [ValueKit.rect_emb_unit_val]
  match a with
  | ⟨0, _⟩ => rfl
  | ⟨1, _⟩ => exact Nat.zero_add _
  | ⟨2, _⟩ => exact Nat.zero_add _

theorem inC_emb (k : Fin k0_t1_loop.trips) (x : Fin 128) (y : Fin 8192) : (inC k).view.emb (ix2 x y) = ix3 (ch1 k) x y :=
  chunk_emb (A := 8) (B := 128) (C := 8192) (C' := 8192) (k0_off1 k) (k0_off1_inb k) _ (ch1 k) (off1_eq k) le_rfl x y
theorem gW_emb (k : Fin k0_t1_loop.trips) (x : Fin 128) (y : Fin 8192) :
    (gW k).view.emb (ix2 x y) = ix3 (ch1 k) x (⟨y.val, lt_of_lt_of_le y.isLt (by decide)⟩ : Fin 32768) :=
  chunk_emb (A := 8) (B := 128) (C := 32768) (C' := 8192) (k0_off2 k) (k0_off2_inb k) _ (ch1 k) (off2_eq k) (by decide) x y
theorem gR_emb (k : Fin k0_t5_loop.trips) (x : Fin 128) (y : Fin 32768) : (gR k).view.emb (ix2 x y) = ix3 (ch5 k) x y :=
  chunk_emb (A := 8) (B := 128) (C := 32768) (C' := 32768) (k0_off3 k) (k0_off3_inb k) _ (ch5 k) (off3_eq k) le_rfl x y
theorem oC_emb (k : Fin k0_t5_loop.trips) (x : Fin 128) (y : Fin 8192) : (oC k).view.emb (ix2 x y) = ix3 (ch5 k) x y :=
  chunk_emb (A := 8) (B := 128) (C := 8192) (C' := 8192) (k0_off4 k) (k0_off4_inb k) _ (ch5 k) (off4_eq k) le_rfl x y

theorem sQ_bound (d : Dev nD) (y : Fin 8192) : 8192 * d.val + y.val < 32768 := by
  have h1 : d.val < 4 := d.isLt
  have h2 := y.isLt
  omega
theorem sQ_emb (d : Dev nD) (x : Fin 128) (y : Fin 8192) :
    (sQ d).view.emb (ix2 x y) = ix2 x (⟨8192 * d.val + y.val, sQ_bound d y⟩ : Fin 32768) := by
  show (Rect.unit (s := S128x32768) (k0_off5 d) S128x8192.size (k0_off5_inb d)).emb (ix2 x y) = _
  funext a
  apply Fin.ext
  rw [ValueKit.rect_emb_unit_val]
  refine (congrArg (fun o : Fin 2 → ℕ => o a + (ix2 x y a).val) (off5_eq d)).trans ?_
  match a with
  | ⟨0, _⟩ => exact Nat.zero_add _
  | ⟨1, _⟩ => rfl

theorem slab_bound (h : Fin 4) (y : Fin 8192) : 8192 * h.val + y.val < 32768 := by
  have h2 := y.isLt
  have h1 := h.isLt
  omega
theorem slab_emb (h : Fin 4) (k : Fin 8) (x : Fin 128) (y : Fin 8192) :
    (slab h).view.emb (ix3 k x y) = ix3 k x (⟨8192 * h.val + y.val, slab_bound h y⟩ : Fin 32768) := by
  show (Rect.unit (s := S8x128x32768) ![0, 0, slabOff h] S8x128x8192.size (slab_inb h)).emb (ix3 k x y) = _
  funext a
  apply Fin.ext
  rw [ValueKit.rect_emb_unit_val]
  match a with
  | ⟨0, _⟩ => exact Nat.zero_add _
  | ⟨1, _⟩ => exact Nat.zero_add _
  | ⟨2, _⟩ => exact congrArg (· + y.val) (slabOff_eq h)

/-! ## The slabs partition the gathering buffer -/

theorem mem_slab (h : Fin 4) (i : S8x128x32768.Idx) : i ∈ (slab h).view.set ↔ (i 2).val / 8192 = h.val := by
  have e1 : (slab h).view.set
      = (Rect.unit (s := S8x128x32768) ![0, 0, slabOff h] S8x128x8192.size (slab_inb h)).set :=
    View.set_slice_whole main_v3_1 _
  rw [e1, Rect.mem_set_unit, Fin.forall_fin_succ, Fin.forall_fin_succ, Fin.forall_fin_one]
  have h0 : (i 0).val < 8 := (i 0).isLt
  have h1 : (i 1).val < 128 := (i 1).isLt
  have e := slabOff_eq h
  show (0 ≤ (i 0).val ∧ (i 0).val < 0 + 8) ∧ (0 ≤ (i 1).val ∧ (i 1).val < 0 + 128)
    ∧ (slabOff h ≤ (i 2).val ∧ (i 2).val < slabOff h + 8192) ↔ _
  omega

theorem slab_disjoint {h h' : Fin 4} (hne : h ≠ h') : Disjoint (slab h).view.set (slab h').view.set :=
  Finset.disjoint_left.mpr fun i hi hi' => hne (Fin.ext (((mem_slab h i).mp hi).symm.trans ((mem_slab h' i).mp hi')))

theorem slab_union : (slab 0).view.set ∪ ((slab 1).view.set ∪ ((slab 2).view.set ∪ (slab 3).view.set)) = Finset.univ := by
  ext i
  refine ⟨fun _ => Finset.mem_univ _, fun _ => ?_⟩
  have h2 : (i 2).val < 32768 := (i 2).isLt
  refine Finset.mem_union.mpr (Or.imp (mem_slab 0 i).mpr (fun h => Finset.mem_union.mpr (Or.imp (mem_slab 1 i).mpr
    (fun h => Finset.mem_union.mpr (Or.imp (mem_slab 2 i).mpr (mem_slab 3 i).mpr h)) h)) ?_)
  show (i 2).val / 8192 = 0 ∨ (i 2).val / 8192 = 1 ∨ (i 2).val / 8192 = 2 ∨ (i 2).val / 8192 = 3
  omega

/-! ## What the copies read and write -/

/-- Chunk `k` of the input, read. -/
theorem read_inC (k : Fin k0_t1_loop.trips) (X : S8x128x8192.Idx → Elt F .bf16) :
    (inC k).view.read (Elt F) X = chunkOf X (ch1 k) := by
  funext j
  rw [eq_ix2 j]
  exact congrArg X (inC_emb k _ _)

/-- Chunk `k` of the gathered block, read. -/
theorem read_gR (k : Fin k0_t5_loop.trips) (X : S8x128x32768.Idx → Elt F .bf16) :
    (gR k).view.read (Elt F) X = wideOf X (ch5 k) := by
  funext j
  rw [eq_ix2 j]
  exact congrArg X (gR_emb k _ _)

/-- A device's quarter of the wide scratch, read. -/
theorem read_sQ (d : Dev nD) (X : S128x32768.Idx → Elt F .bf16) (x : Fin 128) (y : Fin 8192) :
    (sQ d).view.read (Elt F) X (ix2 x y) = X (ix2 x ⟨8192 * d.val + y.val, sQ_bound d y⟩) :=
  congrArg X (sQ_emb d x y)

theorem gW_sub (k : Fin k0_t1_loop.trips) : (gW k).view.set ⊆ (slab 0).view.set := by
  intro i hi
  obtain ⟨j, -, rfl⟩ := Finset.mem_map.mp hi
  rw [eq_ix2 j]
  refine (mem_slab 0 _).mpr ?_
  have e := gW_emb k (j 0) (j 1)
  refine (congrArg (fun i : S8x128x32768.Idx => (i 2).val / 8192) e).trans ?_
  exact Nat.div_eq_of_lt (j 1).isLt

/-- Writing chunk `k`'s first columns: the chunk's elements there are the payload's … -/
theorem write_gW_at (k : Fin k0_t1_loop.trips) (f : S8x128x32768.Idx → Elt F .bf16) (w : Chunk F) (x : Fin 128) (y : Fin 8192) :
    (gW k).view.write (Elt F) f w Finset.univ (ix3 (ch1 k) x ⟨y.val, lt_of_lt_of_le y.isLt (by decide)⟩) = w (ix2 x y) := by
  rw [← gW_emb]
  exact View.write_emb_of_mem _ _ (Finset.mem_univ _)

/-- … and the other chunks' are unchanged. -/
theorem write_gW_off (k : Fin k0_t1_loop.trips) (f : S8x128x32768.Idx → Elt F .bf16) (w : Chunk F) (i : S8x128x32768.Idx)
    (h : (i 0).val ≠ k.val) : (gW k).view.write (Elt F) f w Finset.univ i = f i := by
  refine View.write_of_not_mem _ _ _ fun hi => h ?_
  obtain ⟨j, -, rfl⟩ := Finset.mem_map.mp hi
  rw [eq_ix2 j]
  exact congrArg (fun i : S8x128x32768.Idx => (i 0).val) (gW_emb k (j 0) (j 1))

theorem write_oC_at (k : Fin k0_t5_loop.trips) (f : S8x128x8192.Idx → Elt F .bf16) (w : Chunk F) (x : Fin 128) (y : Fin 8192) :
    (oC k).view.write (Elt F) f w Finset.univ (ix3 (ch5 k) x y) = w (ix2 x y) := by
  rw [← oC_emb]
  exact View.write_emb_of_mem _ _ (Finset.mem_univ _)

theorem write_oC_off (k : Fin k0_t5_loop.trips) (f : S8x128x8192.Idx → Elt F .bf16) (w : Chunk F) (i : S8x128x8192.Idx)
    (h : (i 0).val ≠ k.val) : (oC k).view.write (Elt F) f w Finset.univ i = f i := by
  refine View.write_of_not_mem _ _ _ fun hi => h ?_
  obtain ⟨j, -, rfl⟩ := Finset.mem_map.mp hi
  rw [eq_ix2 j]
  exact congrArg (fun i : S8x128x8192.Idx => (i 0).val) (oC_emb k (j 0) (j 1))

/-! ## What the gathering buffer holds -/

/-- Column `8192 h + y` of the gathered block is column `y` of the sorted block `h` places to the left. -/
theorem gath_at (X : Dev nD → S8x128x8192.Idx → Elt F .bf16) (c : Dev nD) (h : Fin 4) (k : Fin 8) (x : Fin 128) (y : Fin 8192) :
    gath X c (ix3 k x ⟨8192 * h.val + y.val, slab_bound h y⟩) = sortedBlock X (back c h.val) (ix3 k x y) := by
  have hy := y.isLt
  have e1 : (8192 * h.val + y.val) / 8192 = h.val := by omega
  have e2 : (8192 * h.val + y.val) % 8192 = y.val := by omega
  show sortedBlock X (back c ((8192 * h.val + y.val) / 8192)) (ix3 k x ⟨(8192 * h.val + y.val) % 8192, _⟩) = _
  rw [e1]
  congr 1
  funext a
  match a with
  | ⟨0, _⟩ => rfl
  | ⟨1, _⟩ => rfl
  | ⟨2, _⟩ => exact Fin.ext e2

theorem back_zero (c : Dev nD) : back c (0 : Fin 4).val = c := by revert c; decide
theorem back_rt (c : Dev nD) (h h' : Fin 4) (e : h'.val = h.val + 1) : back (rt c) h'.val = back c h.val := by
  revert c h h' e; decide

/-- A hop: slab `h` of device `c`'s gathered block, written into slab `h + 1` of its right neighbour's buffer, is that
    neighbour's gathered block there. -/
theorem hop_eq (X : Dev nD → S8x128x8192.Idx → Elt F .bf16) (c : Dev nD) (h h' : Fin 4) (e : h'.val = h.val + 1)
    (f : S8x128x32768.Idx → Elt F .bf16) (i : S8x128x32768.Idx) (hi : i ∈ (slab h').view.set) :
    (slab h').view.write (Elt F) f ((slab h).view.read (Elt F) (gath X c)) Finset.univ i = gath X (rt c) i := by
  obtain ⟨j, -, rfl⟩ := Finset.mem_map.mp hi
  refine (View.write_emb_of_mem _ _ (Finset.mem_univ _)).trans ?_
  rw [eq_ix3 j]
  refine (congrArg (gath X c) (slab_emb h (j 0) (j 1) (j 2))).trans ?_
  refine Eq.trans ?_ (congrArg (gath X (rt c)) (slab_emb h' (j 0) (j 1) (j 2))).symm
  exact (gath_at X c h _ _ _).trans ((congrArg (fun d => sortedBlock X d (ix3 (j 0) (j 1) (j 2))) (back_rt c h h' e).symm).trans
    (gath_at X (rt c) h' _ _ _).symm)

/-- Slab 0 of a gathered block is the device's own sorted block. -/
theorem gath_own (X : Dev nD → S8x128x8192.Idx → Elt F .bf16) (c : Dev nD) (k : Fin 8) (x : Fin 128) (y : Fin 8192) :
    gath X c (ix3 k x ⟨y.val, lt_of_lt_of_le y.isLt (by decide)⟩) = localSort (par c) (chunkOf (X c) k) (ix2 x y) := by
  have h := gath_at X c 0 k x y
  have hb : back c (0 : Fin 4).val = c := back_zero c
  rw [hb] at h
  refine Eq.trans (congrArg (gath X c) ?_) h
  funext a
  match a with
  | ⟨0, _⟩ => rfl
  | ⟨1, _⟩ => rfl
  | ⟨2, _⟩ => exact Fin.ext (Nat.zero_add y.val).symm

end Cert.KernelIdeal.Sorted

end
-- ==== Proof.Proto.lean ====
/-
  THE PROTOCOL between the four devices.

  Device `c` has a right neighbour `rt c` and a left neighbour `lt c`. It signals both neighbours' barrier semaphores and waits for
  two units of its own. Then it sorts its block into slab 0 of its gathering buffer, and three times hands a slab on: slab `h` goes to
  slab `h + 1` of `rt c`, raising `send h` at home and `recv h` there; it waits for both of its own.

  * barrier of `c`, one round of two duties of one unit. `rt c` (duty `false`) hands over its own slabs 1, 2 and 3 — the places the
    three hops of `c` write — and that its three receive semaphores stand at their round 0. `lt c` (duty `true`) hands over nothing.
  * `send h` of `c`: one duty, paid by the copy out of slab `h`: the slab back, holding the gathered block.
  * `recv h` of `c`: one duty, paid by `lt c`'s copy into slab `h + 1`: the slab back, holding the gathered block.

  The two semaphores of the local copies take no part: they are at zero whenever no copy is in flight.
-/
module

public import proofs.«01_k».proof.Proof.Views
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.Tactic

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

/-! ## The algebra -/

/-- The region machinery's records, the protocol's (duties named by a Boolean), and the local copies'. -/
abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) :=
  (Emb.inl : Emb (URounds (GSem nD τ sig) Bool) (URounds (GSem nD τ sig) Bool × Counters)).trans embR
abbrev EC : UEmb Counters (MT nD τ sig Unit (Elt F) ℕ UU ℕ) := countersEmb

/-! ## The semaphores -/

abbrev sendS (h : Fin 3) : DmaSem sig := ⟨h.val, lt_of_lt_of_le h.isLt (by decide)⟩
abbrev recvS (h : Fin 3) : DmaSem sig := ⟨h.val + 3, lt_of_lt_of_le (Nat.add_lt_add_right h.isLt 3) (by decide)⟩
abbrev loadS : DmaSem sig := ⟨6, by decide⟩
abbrev storeS : DmaSem sig := ⟨7, by decide⟩

abbrev barCell (c : Dev nD) : GSem nD τ sig := ((c : Thread nD τ), .reg barrier0)
abbrev sendCell (c : Dev nD) (h : Fin 3) : GSem nD τ sig := ((c : Thread nD τ), .dma (sendS h))
abbrev recvCell (c : Dev nD) (h : Fin 3) : GSem nD τ sig := ((c : Thread nD τ), .dma (recvS h))
abbrev loadCell (c : Dev nD) : GSem nD τ sig := ((c : Thread nD τ), .dma loadS)
abbrev storeCell (c : Dev nD) : GSem nD τ sig := ((c : Thread nD τ), .dma storeS)

/-- What a semaphore is for. -/
inductive Role : Type
  | bar
  | send (h : Fin 3)
  | recv (h : Fin 3)
  | idle

/-- The role of each semaphore: the regular one is the barrier; DMA semaphores 0 to 2 are sends, 3 to 5 receives. -/
def role : SemLoc sig → Role
  | .reg _ => .bar
  | .dma s => if hs : s.val < 3 then .send ⟨s.val, hs⟩ else if hr : s.val < 6 then .recv ⟨s.val - 3, by omega⟩ else .idle

theorem role_bar : role (.reg barrier0) = .bar := rfl
theorem role_send (h : Fin 3) : role (.dma (sendS h)) = .send h := dif_pos h.isLt
theorem role_recv (h : Fin 3) : role (.dma (recvS h)) = .recv h := match h with | 0 => rfl | 1 => rfl | 2 => rfl
theorem role_load : role (.dma loadS) = .idle := by rfl
theorem role_store : role (.dma storeS) = .idle := by rfl

/-! ## Points-tos -/

/-- A whole buffer of device `c`. -/
abbrev pt (c : Dev nD) (b : Ref sig .tc) (f : b.ty.Contents (Elt F)) : sProp 𝕄 :=
  (Memref.whole b).view.loc (c : Thread nD τ) ↦{fullShare} f

/-- Slab `h` of device `c`'s gathering buffer, at the contents `f` of the whole. -/
abbrev slabAt (c : Dev nD) (h : Fin 4) (f : S8x128x32768.Idx → Elt F .bf16) : sProp 𝕄 :=
  (slab h).view.loc (c : Thread nD τ) ↦[(slab h).view.set]{fullShare} f

/-- Three in a row. -/
abbrev tri (P : Fin 3 → sProp 𝕄) : sProp 𝕄 := iprop(P 0 ∗ P 1 ∗ P 2)

/-- Two contents that agree on a slab are the same there. -/
theorem slabAt_congr (c : Dev nD) (h : Fin 4) {f g : S8x128x32768.Idx → Elt F .bf16} (e : ∀ i ∈ (slab h).view.set, f i = g i) :
    (slabAt c h f : sProp 𝕄) = slabAt c h g := pointsTo_congr e

abbrev slabSet (h : Fin 4) : Finset S8x128x32768.Idx := (slab h).view.set
/-- A part of device `c`'s gathering buffer. -/
abbrev gAt (c : Dev nD) (S : Finset S8x128x32768.Idx) (f : S8x128x32768.Idx → Elt F .bf16) : sProp 𝕄 :=
  gM.view.loc (c : Thread nD τ) ↦[S]{fullShare} f

/-- Disjoint parts of a buffer, held together, are held apart. -/
theorem union_eq (ℓ : Loc nD τ sig) (I J : Finset (Idx ℓ)) (h : Disjoint I J) (f : Buf (Elt F) ℓ) :
    (ℓ ↦[I ∪ J]{fullShare} f : sProp 𝕄) = iprop((ℓ ↦[I]{fullShare} f) ∗ ℓ ↦[J]{fullShare} f) :=
  BI.equiv_iff.mp ⟨(pointsTo_union h).1, (pointsTo_union h).2⟩

/-- The gathering buffer is its four slabs. -/
theorem slabs_eq (c : Dev nD) (f : S8x128x32768.Idx → Elt F .bf16) :
    (pt c main_v3_1 f : sProp 𝕄) = iprop(slabAt c 0 f ∗ slabAt c 1 f ∗ slabAt c 2 f ∗ slabAt c 3 f) := by
  have d3 : Disjoint (slabSet 2) (slabSet 3) := slab_disjoint (by decide)
  have d2 : Disjoint (slabSet 1) (slabSet 2 ∪ slabSet 3) :=
    Finset.disjoint_union_right.mpr ⟨slab_disjoint (by decide), slab_disjoint (by decide)⟩
  have d1 : Disjoint (slabSet 0) (slabSet 1 ∪ (slabSet 2 ∪ slabSet 3)) :=
    Finset.disjoint_union_right.mpr ⟨slab_disjoint (by decide), Finset.disjoint_union_right.mpr
      ⟨slab_disjoint (by decide), slab_disjoint (by decide)⟩⟩
  have e0 : (pt c main_v3_1 f : sProp 𝕄) = gAt c (slabSet 0 ∪ (slabSet 1 ∪ (slabSet 2 ∪ slabSet 3))) f :=
    congrArg (fun S => gAt c S f) slab_union.symm
  have e1 := union_eq (F := F) (gM.view.loc (c : Thread nD τ)) _ _ d1 f
  have e2 := union_eq (F := F) (gM.view.loc (c : Thread nD τ)) _ _ d2 f
  have e3 := union_eq (F := F) (gM.view.loc (c : Thread nD τ)) _ _ d3 f
  rw [e3] at e2
  rw [e2] at e1
  exact e0.trans e1

/-! ## The schedule -/

/-- The credit of one slab's copy. -/
abbrev N : ℕ := (slab 1).view.dmaCredit
theorem N_pos : 0 < N := View.dmaCredit_pos _ (by decide)

variable (X : Dev nD → S8x128x8192.Idx → Elt F .bf16)

/-- Handed to `c`'s barrier by its right neighbour. -/
def barPay (c : Dev nD) : sProp 𝕄 :=
  iprop(tri (fun h => iprop(∃ f, slabAt (rt c) h.succ f)) ∗ tri (fun h => reached ER (recvCell (rt c) h) 0))

/-- The schedule of every cell. -/
def sched : Rounds.Schedule (GSem nD τ sig) Bool 𝕄 where
  duties g r := if r = 0 ∧ g.1.2 = .tc then (match role g.2 with | .bar => {false, true} | .send _ => {false} | .recv _ => {false} | .idle => ∅) else ∅
  unitless _ := False
  amount g _ _ := match role g.2 with | .bar => 1 | _ => N
  payload g _ d := match role g.2 with
    | .bar => if d then iprop(emp) else barPay g.1.1
    | .send h => slabAt g.1.1 h.castSucc (gath X g.1.1)
    | .recv h => slabAt g.1.1 h.succ (gath X g.1.1)
    | .idle => iprop(emp)
  amount_pos g _ _ _ := by
    split
    · exact Nat.one_pos
    · exact N_pos

instance sched_storable (g : GSem nD τ sig) (r : ℕ) (d : Bool) : BI.Storable (upEmb : UEmb _ 𝕄) ((sched X).payload g r d) := by
  dsimp only [sched]
  split
  · split
    · infer_instance
    · unfold barPay tri; infer_instance
  all_goals infer_instance

section Cells

variable (c : Dev nD) (h : Fin 3)

theorem duties_bar : (sched X).duties (barCell c) 0 = {false, true} := by
  dsimp only [sched]; rw [if_pos ⟨rfl, rfl⟩, role_bar]
theorem duties_send : (sched X).duties (sendCell c h) 0 = {false} := by
  dsimp only [sched]; rw [if_pos ⟨rfl, rfl⟩, role_send]
theorem duties_recv : (sched X).duties (recvCell c h) 0 = {false} := by
  dsimp only [sched]; rw [if_pos ⟨rfl, rfl⟩, role_recv]
theorem duties_later (g : GSem nD τ sig) : ∀ r, 1 ≤ r → (sched X).duties g r = ∅ :=
  fun r hr => if_neg fun h => by omega

theorem amount_bar (d : Bool) : (sched X).amount (barCell c) 0 d = 1 := rfl
theorem amount_send (d : Bool) : (sched X).amount (sendCell c h) 0 d = N := by dsimp only [sched]; rw [role_send]
theorem amount_recv (d : Bool) : (sched X).amount (recvCell c h) 0 d = N := by dsimp only [sched]; rw [role_recv]

theorem expect_bar : (sched X).expect (barCell c) 0 = 2 := by
  unfold Schedule.expect Schedule.amountOf; rw [duties_bar, Finset.sum_pair (by decide), amount_bar, amount_bar]
theorem expect_send : (sched X).expect (sendCell c h) 0 = N := by
  unfold Schedule.expect Schedule.amountOf; rw [duties_send, Finset.sum_singleton, amount_send]
theorem expect_recv : (sched X).expect (recvCell c h) 0 = N := by
  unfold Schedule.expect Schedule.amountOf; rw [duties_recv, Finset.sum_singleton, amount_recv]

theorem payload_false : (sched X).payload (barCell c) 0 false = barPay c := rfl
theorem payload_true : (sched X).payload (barCell c) 0 true = iprop(emp) := rfl
theorem payload_send (d : Bool) : (sched X).payload (sendCell c h) 0 d = slabAt c h.castSucc (gath X c) := by
  dsimp only [sched]; rw [role_send]
theorem payload_recv (d : Bool) : (sched X).payload (recvCell c h) 0 d = slabAt c h.succ (gath X c) := by
  dsimp only [sched]; rw [role_recv]

theorem rest_bar : bigSep ((sched X).duties (barCell c) 0 \ ∅) (fun d => (sched X).payload (barCell c) 0 d) = iprop(barPay c ∗ emp) := by
  rw [Finset.sdiff_empty, duties_bar, bigSep_insert (by decide), bigSep_singleton]; rfl
theorem rest_send : bigSep ((sched X).duties (sendCell c h) 0 \ ∅) (fun d => (sched X).payload (sendCell c h) 0 d)
    = slabAt c h.castSucc (gath X c) := by
  rw [Finset.sdiff_empty, duties_send, bigSep_singleton, payload_send]
theorem rest_recv : bigSep ((sched X).duties (recvCell c h) 0 \ ∅) (fun d => (sched X).payload (recvCell c h) 0 d)
    = slabAt c h.succ (gath X c) := by
  rw [Finset.sdiff_empty, duties_recv, bigSep_singleton, payload_recv]

end Cells

/-! ## What a core owes, and the levels -/

/-- Owed once hops 0 and 1 are under way; once hop 0 is; once both signals are out; after the first signal; at launch. -/
def owe3 (c : Dev nD) : CellTallies nD τ sig Unit := 0 + tallyAt (recvCell (rt c) 2) () N
def owe2 (c : Dev nD) : CellTallies nD τ sig Unit := owe3 c + tallyAt (recvCell (rt c) 1) () N
def owe1 (c : Dev nD) : CellTallies nD τ sig Unit := owe2 c + tallyAt (recvCell (rt c) 0) () N
def oweB (c : Dev nD) : CellTallies nD τ sig Unit := owe1 c + tallyAt (barCell (rt c)) () 1
def O₀ (c : Dev nD) : CellTallies nD τ sig Unit := oweB c + tallyAt (barCell (lt c)) () 1

def L (g : GSem nD τ sig) : Finset Unit := if g.1.2 = .tc then {()} else ∅
/-- Barriers at level 1, receive `h` at `2 + h`, the rest at 0. -/
def lv (g : GSem nD τ sig) (_ : Unit) : ℕ := match role g.2 with | .bar => 1 | .recv h => 2 + h.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (h : Fin 3) : lv (recvCell c h) () = 2 + h.val := by dsimp only [lv]; rw [role_recv]
theorem lv_send (c : Dev nD) (h : Fin 3) : lv (sendCell c h) () = 0 := by dsimp only [lv]; rw [role_send]

theorem pos_add {A : CellTallies nD τ sig Unit} {g : GSem nD τ sig} {n : ℕ} {g' : GSem nD τ sig} {u : Unit}
    (h : 0 < (A + tallyAt g () n) g' u) : 0 < A g' u ∨ g' = g := by
  rw [Pi.add_apply, Finsupp.add_apply, tallyAt_apply] at h
  by_cases e : g' = g ∧ u = ()
  · exact .inr e.1
  · rw [if_neg e, Nat.add_zero] at h; exact .inl h

theorem pos_owe3 {c : Dev nD} {g : GSem nD τ sig} {u : Unit} (h : 0 < owe3 c g u) : g = recvCell (rt c) 2 :=
  (pos_add h).resolve_left fun h0 => absurd h0 (Nat.lt_irrefl 0)
theorem pos_owe2 {c : Dev nD} {g : GSem nD τ sig} {u : Unit} (h : 0 < owe2 c g u) : g = recvCell (rt c) 2 ∨ g = recvCell (rt c) 1 :=
  (pos_add h).imp_left pos_owe3
theorem pos_owe1 {c : Dev nD} {g : GSem nD τ sig} {u : Unit} (h : 0 < owe1 c g u) :
    (g = recvCell (rt c) 2 ∨ g = recvCell (rt c) 1) ∨ g = recvCell (rt c) 0 := (pos_add h).imp_left pos_owe2
theorem pos_O₀ {c : Dev nD} {g : GSem nD τ sig} {u : Unit} (h : 0 < O₀ c g u) :
    ((((g = recvCell (rt c) 2 ∨ g = recvCell (rt c) 1) ∨ g = recvCell (rt c) 0) ∨ g = barCell (rt c)) ∨ g = barCell (lt c)) :=
  (pos_add h).imp_left fun h => (pos_add h).imp_left pos_owe1

/-- A core may wait on a semaphore of level at most `b` while all it owes lies strictly above. -/
theorem may_wait (c : Dev nD) (sm : SemLoc sig) (O : CellTallies nD τ sig Unit) (b : ℕ) (h1 : lv ((c : Thread nD τ), sm) () ≤ b)
    (h2 : ∀ (g : GSem nD τ sig) (u : Unit), 0 < O g u → g.1.2 = .tc ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (h2 g u hg).1]; exact Finset.mem_singleton_self _)
    (fun p hp => by rw [Finset.mem_singleton.mp hp]; exact h1)
    (fun g u hg => (h2 g u hg).2)

/-- On a semaphore of level at most 1 while the three receives are owed … -/
theorem may_wait1 (c : Dev nD) (sm : SemLoc sig) (h1 : lv ((c : Thread nD τ), sm) () ≤ 1) :
    (levAts L lv : sProp 𝕄) ⊢ MayWait (c : Thread nD τ) sm () (owe1 c) :=
  may_wait c sm _ 1 h1 fun g u hg => by
    rcases pos_owe1 hg with (rfl | rfl) | rfl <;> exact ⟨rfl, by rw [lv_recv]; decide⟩
/-- … of level at most 2 while receives 1 and 2 are … -/
theorem may_wait2 (c : Dev nD) (sm : SemLoc sig) (h1 : lv ((c : Thread nD τ), sm) () ≤ 2) :
    (levAts L lv : sProp 𝕄) ⊢ MayWait (c : Thread nD τ) sm () (owe2 c) :=
  may_wait c sm _ 2 h1 fun g u hg => by
    rcases pos_owe2 hg with rfl | rfl <;> exact ⟨rfl, by rw [lv_recv]; decide⟩
/-- … of level at most 3 while receive 2 is. -/
theorem may_wait3 (c : Dev nD) (sm : SemLoc sig) (h1 : lv ((c : Thread nD τ), sm) () ≤ 3) :
    (levAts L lv : sProp 𝕄) ⊢ MayWait (c : Thread nD τ) sm () (owe3 c) :=
  may_wait c sm _ 3 h1 fun g u hg => by
    obtain rfl := pos_owe3 hg; exact ⟨rfl, by rw [lv_recv]; decide⟩

/-! ## The protocol's ghost state -/

/-- The cells' invariants device `c` opens: its own seven, both neighbours' barriers, its right neighbour's receives. -/
def invs (K : GSem nD τ sig → ℕ) (c : Dev nD) : sProp 𝕄 :=
  iprop((cellInv ER (sched X) (K (barCell c)) (barCell c) ∗ cellInv ER (sched X) (K (barCell (lt c))) (barCell (lt c))
      ∗ cellInv ER (sched X) (K (barCell (rt c))) (barCell (rt c)))
    ∗ tri (fun h => cellInv ER (sched X) (K (sendCell c h)) (sendCell c h))
    ∗ tri (fun h => cellInv ER (sched X) (K (recvCell c h)) (recvCell c h))
    ∗ tri (fun h => cellInv ER (sched X) (K (recvCell (rt c) h)) (recvCell (rt c) h)))
instance invs_persistent (K : GSem nD τ sig → ℕ) (c : Dev nD) : BI.Persistent (invs X K c) := by unfold invs tri; infer_instance

/-- The tokens of the duties device `c` pays. -/
def dues (c : Dev nD) : sProp 𝕄 :=
  iprop((dutyTok ER (barCell (lt c)) 0 false ∗ dutyTok ER (barCell (rt c)) 0 true)
    ∗ tri (fun h => dutyTok ER (sendCell c h) 0 false) ∗ tri (fun h => dutyTok ER (recvCell (rt c) h) 0 false))

/-- What device `c` carries from the launch to the kernel: its place at its barrier, the rights to open its six transfer cells, that
    its neighbours' barriers stand at round 0, and the tokens. -/
def ghost (K : GSem nD τ sig → ℕ) (c : Dev nD) : sProp 𝕄 :=
  iprop(invs X K c ∗ atPos ER (barCell c) 0 ∅ 0 ∗ (tri (fun h => openTok ER (sendCell c h)) ∗ tri (fun h => openTok ER (recvCell c h)))
    ∗ (reached ER (barCell (lt c)) 0 ∗ reached ER (barCell (rt c)) 0) ∗ dues c)

/-- The same with the six cells open. -/
def opened (K : GSem nD τ sig → ℕ) (c : Dev nD) : sProp 𝕄 :=
  iprop(invs X K c ∗ atPos ER (barCell c) 0 ∅ 0
    ∗ (tri (fun h => iprop(atPos ER (sendCell c h) 0 ∅ 0 ∗ reached ER (sendCell c h) 0))
      ∗ tri (fun h => iprop(atPos ER (recvCell c h) 0 ∅ 0 ∗ reached ER (recvCell c h) 0)))
    ∗ (reached ER (barCell (lt c)) 0 ∗ reached ER (barCell (rt c)) 0) ∗ dues c)

/-- The credit device `c` waits with. -/
def credits (c : Dev nD) : sProp 𝕄 := iprop(cred (tallyAt (barCell c) () 2) ∗ tri (fun h => cred (tallyAt (recvCell c h) () N)))

/-- A cell whose one round is over gives its counter back, at zero. -/
theorem close (κ : ℕ) (g : GSem nD τ sig) :
    iprop(cellInv ER (sched X) κ g ∗ atPos ER g (0 + 1) ∅ 0) ⊢ (|={Set.univ}=> semVal g 0 : sProp 𝕄) :=
  Rounds.cell_close ER (sched X) (Set.mem_univ κ) id (duties_later X g)

abbrev 𝒱₀ : Variants := Variants.none

end Cert.KernelIdeal.Sorted

end
-- ==== Proof.LoopA.lean ====
/-
  THE FIRST LOOP: each of the eight trips fetches a chunk of the input, sorts its rows and stores it in slab 0 of the gathering
  buffer. Over all trips slab 0 comes to hold the device's own sorted block.
-/
module

public import proofs.«01_k».proof.Proof.Proto

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal.Gen

variable {F : FTy → Type} [FloatOps F]

local notation "𝕄" => MT nD τ sig Unit (Elt F) ℕ UU ℕ

theorem load_sem : (cc0_scratch4 : DmaSems sig S_).sem = loadS := rfl
theorem store_sem : (cc0_scratch5 : DmaSems sig S_).sem = storeS := rfl

theorem lv_load (c : Dev nD) : lv ((c : Thread nD τ), .dma loadS) () = 0 := by dsimp only [lv]; rw [role_load]
theorem lv_store (c : Dev nD) : lv ((c : Thread nD τ), .dma storeS) () = 0 := by dsimp only [lv]; rw [role_store]

/-- A local copy and the wait for it, in one step: the destination comes back rewritten, the source as it was, the semaphore at zero. -/
theorem wp_copy_wait {defs : Defs nD τ sig (Elt F) Λ₀} (c : Dev nD) {sp sp' sp₁ : Space} {s s₁ : Shape} {e e₁ : EltTy}
    {src : Memref sig .tc sp s e} {dst : Memref sig .tc sp' s e} {sem : DmaSem sig}
    {h1 : src.view.WordExact} {h2 : dst.view.WordExact} {h3 : DmaTarget.Typed (nD := nD) (τ := τ) (p := .tc) sp (.dma sem) (.here dst)}
    {srcw : Memref sig .tc sp₁ s₁ e₁} {h4 : srcw.view.WordExact} {h5 : dst.view.WordExact}
    {α : Type} {k : PUnit → Prog (TpuEff nD τ sig (Elt F) Λ₀ .tc) α} {Q : α → sProp 𝕄}
    {fs : Buf (Elt F) (src.view.loc (c : Thread nD τ))} {Sd : Finset (Idx (dst.view.loc (c : Thread nD τ)))}
    {fd : Buf (Elt F) (dst.view.loc (c : Thread nD τ))} {O : CellTallies nD τ sig Unit} {W : Waits sig Unit}
    (hN0 : 0 < dst.view.dmaCredit) (hSd : dst.view.set ⊆ Sd) :
    iprop((src.view.loc (c : Thread nD τ) ↦[src.view.set]{fullShare} fs) ∗ (dst.view.loc (c : Thread nD τ) ↦[Sd]{fullShare} fd)
        ∗ semVal ((c : Thread nD τ), .dma sem) 0 ∗ owes (c : Thread nD τ) O W ∗ MayWait (c : Thread nD τ) (.dma sem) () O)
      ⊢ iprop((iprop((dst.view.loc (c : Thread nD τ) ↦[Sd]{fullShare} (dst.view.write (Elt F) fd (src.view.read (Elt F) fs) Finset.univ))
            ∗ (src.view.loc (c : Thread nD τ) ↦[src.view.set]{fullShare} fs) ∗ semVal ((c : Thread nD τ), .dma sem) 0
            ∗ owes (c : Thread nD τ) O (insert (SemLoc.dma sem, ()) W))
          -∗ wp frame (wpE defs 𝒱₀ (c : Thread nD τ) none) Set.univ (k ⟨⟩) Q)
        -∗ wp frame (wpE defs 𝒱₀ (c : Thread nD τ) none) Set.univ
            (.op (.enqueueDma src (.here dst) (.dma sem) h1 h2 h3) fun _ => .op (.waitDma2 sem srcw dst h4 h5) k) Q) := by
  iintro ⟨Hs, Hd, Hv, HO, Hmw⟩ Hk
  iapply (Transfers.wp_dmaLocal EC 𝒱₀ (c : Thread nD τ) none (src := src) (dst := dst) (sm := .dma sem) (via := .same) (q := fullShare) (fs := fs) (Sd := Sd)
    (fd := fd) () dst.view.dmaCredit rfl hN0 hSd) $$ [Hs Hd Hv]
  · isplitl [Hs]; · iexact Hs
    isplitl [Hd] <;> iassumption
  iintro Hf
  iapply (Transfers.wp_waitLocalO EC 𝒱₀ (c : Thread nD τ) none (dstw := dst) () rfl (O := O) (W := W)) $$ [Hf HO Hmw]
  · isplitl [Hf]; · iexact Hf
    isplitl [HO] <;> iassumption
  iintro ⟨⟨Hd, Hs⟩, Hv, HO⟩
  iapply Hk
  isplitl [Hd]; · iexact Hd
  isplitl [Hs]; · iexact Hs
  isplitl [Hv] <;> iassumption

/-- Reading the whole of the narrow scratch … -/
theorem wp_load_a {defs : Defs nD τ sig (Elt F) Λ₀} (c : Dev nD) {hl : aM.view.LoadsAt
      (Rect.unit (s := S128x8192) ![0, 0] S128x8192.size inb_S128x8192_S128x8192_0_0).toLoadRect}
    {α : Type} {k : Chunk F → Prog (TpuEff nD τ sig (Elt F) Λ₀ .tc) α} {Q : α → sProp 𝕄} (f : Chunk F) :
    pt c cc0_scratch0 f ⊢ iprop((pt c cc0_scratch0 f -∗ wp frame (wpE defs 𝒱₀ (c : Thread nD τ) none) Set.univ (k f) Q)
      -∗ wp frame (wpE defs 𝒱₀ (c : Thread nD τ) none) Set.univ (.op (.load aM
          (Rect.unit (s := S128x8192) ![0, 0] S128x8192.size inb_S128x8192_S128x8192_0_0).toLoadRect hl) k) Q) := by
  have e : aM.view.readAt (Elt F) (Rect.unit (s := S128x8192) ![0, 0] S128x8192.size inb_S128x8192_S128x8192_0_0).toLoadRect f = f :=
    Memref.readAt_unit_zero (Elt F) cc0_scratch0 (by funext a; revert a; decide) _ f
  iintro H Hk
  iapply (wp_load 𝒱₀ (c : Thread nD τ) none Set.univ (Finset.subset_univ _)) $$ H
  rw [e]; iexact Hk

/-- … and writing it. -/
theorem wp_store_a {defs : Defs nD τ sig (Elt F) Λ₀} (c : Dev nD) {w : Chunk F} {hx} {hm}
    {α : Type} {k : PUnit → Prog (TpuEff nD τ sig (Elt F) Λ₀ .tc) α} {Q : α → sProp 𝕄} (f : Chunk F) :
    pt c cc0_scratch0 f ⊢ iprop((pt c cc0_scratch0 w -∗ wp frame (wpE defs 𝒱₀ (c : Thread nD τ) none) Set.univ (k ⟨⟩) Q)
      -∗ wp frame (wpE defs 𝒱₀ (c : Thread nD τ) none) Set.univ (.op (.store aM
          (Rect.unit (s := S128x8192) ![0, 0] S128x8192.size inb_S128x8192_S128x8192_0_0) w Finset.univ hx hm) k) Q) := by
  have e : (aM.access (Rect.unit (s := S128x8192) ![0, 0] S128x8192.size inb_S128x8192_S128x8192_0_0)).write (Elt F) f w Finset.univ = w :=
    Memref.write_access_unit_zero_univ (Elt F) cc0_scratch0 (by funext a; revert a; decide) _ f w
  iintro H Hk
  iapply (wp_store 𝒱₀ (c : Thread nD τ) none Set.univ (m := aM)
    (r := Rect.unit (s := S128x8192) ![0, 0] S128x8192.size inb_S128x8192_S128x8192_0_0) (Finset.subset_univ _)) $$ H
  rw [e]; iexact Hk

theorem write_aM (f w : Chunk F) : aM.view.write (Elt F) f w Finset.univ = w := View.write_whole_univ _ _ _
theorem read_aM (f : Chunk F) : aM.view.read (Elt F) f = f := View.read_whole ..
theorem set_aM : aM.view.set = Finset.univ := View.set_whole _

variable (X : Dev nD → S8x128x8192.Idx → Elt F .bf16)

/-- After `n` trips: slab 0 holds the gathered block on the chunks below `n`. -/
def invA (c : Dev nD) (n : ℕ) (_ : Unit) : sProp 𝕄 :=
  iprop(levAts L lv ∗ (∃ f, slabAt c 0 f ∗ ⌜∀ i, i ∈ slabSet 0 → (i 0).val < n → f i = gath X c i⌝) ∗ (∃ a, pt c cc0_scratch0 a)
    ∗ pt c main_v2 (X c) ∗ semVal (loadCell c) 0 ∗ semVal (storeCell c) 0 ∗ ∃ W, owes (c : Thread nD τ) (owe1 c) W)

/-- The contents of slab 0 after one more chunk. -/
theorem stepA_value (c : Dev nD) (k : Fin k0_t1_loop.trips) (f : S8x128x32768.Idx → Elt F .bf16)
    (hf : ∀ i, i ∈ slabSet 0 → (i 0).val < k.val → f i = gath X c i) (i : S8x128x32768.Idx) (hi : i ∈ slabSet 0) (hk : (i 0).val < k.val + 1) :
    (gW k).view.write (Elt F) f (localSort (par c) (chunkOf (X c) (ch1 k))) Finset.univ i = gath X c i := by
  by_cases e : (i 0).val = k.val
  · have h2 : (i 2).val < 8192 := by
      have := (mem_slab 0 i).mp hi
      have h32 : (i 2).val < 32768 := (i 2).isLt
      have : (i 2).val / 8192 = 0 := this
      omega
    have ei : i = ix3 (ch1 k) (i 1) ⟨(⟨(i 2).val, h2⟩ : Fin 8192).val, lt_of_lt_of_le h2 (by decide)⟩ := by
      refine (eq_ix3 i).trans ?_
      congr 1
      exact Fin.ext e
    rw [ei]
    exact (write_gW_at k f _ (i 1) ⟨(i 2).val, h2⟩).trans (gath_own X c (ch1 k) (i 1) ⟨(i 2).val, h2⟩).symm
  · exact (write_gW_off k f _ i e).trans (hf i hi (by omega))

/-- One trip. -/
theorem stepA {defs : Defs nD τ sig (Elt F) Λ₀} (c : Dev nD) (v14 v25 : BitVec 32) (k : Fin k0_t1_loop.trips) (acc : Unit) :
    invA X c k.val acc ⊢ wp frame (wpE defs 𝒱₀ (c : Thread nD τ) none) Set.univ
      (k0_t1_body xM (Memref.isWhole_whole _) oM (Memref.isWhole_whole _) gM (Memref.isWhole_whole _) aM (Memref.isWhole_whole _)
        bM (Memref.isWhole_whole _) cc0_scratch2 cc0_scratch3 cc0_scratch4 cc0_scratch5 c v14 v25 (par c) k acc) (invA X c (k.val + 1)) := by
  unfold k0_t1_body
  simp only [t2_eq, Prog.lift, Prog.bind_op, Prog.bind_ret, load_sem, store_sem, pay3_eq]
  unfold invA
  iintro ⟨#Hlev, ⟨%f, Hg, %hf⟩, ⟨%a, Ha⟩, Hx, Hl, Hs, ⟨%W, HO⟩⟩
  ihave Hx' := (pointsTo_split_subset (Finset.subset_univ (inC k).view.set)).1 $$ Hx
  icases Hx' with ⟨Hxk, Hxr⟩
  iapply (wp_copy_wait c (src := inC k) (dst := aM) (sem := loadS) (fs := X c) (Sd := Finset.univ) (fd := a) (O := owe1 c) (W := W)
    (aM.view.dmaCredit_pos (by decide)) (Finset.subset_univ _)) $$ [Hxk Ha Hl HO]
  · isplitl [Hxk]; · iexact Hxk
    isplitl [Ha]; · iexact Ha
    isplitl [Hl]; · iexact Hl
    isplitl [HO]; · iexact HO
    iapply (may_wait1 c (.dma loadS) (lv_load c ▸ Nat.zero_le 1)); iexact Hlev
  rw [read_inC, write_aM]
  iintro ⟨Ha, Hxk, Hl, HO⟩
  iapply (wp_load_a c (chunkOf (X c) (ch1 k))) $$ Ha
  iintro Ha
  iapply (wp_load_a c (chunkOf (X c) (ch1 k))) $$ Ha
  iintro Ha
  iapply (wp_store_a c (chunkOf (X c) (ch1 k))) $$ Ha
  iintro Ha
  iapply (wp_copy_wait c (src := aM) (dst := gW k) (sem := storeS) (fs := localSort (par c) (chunkOf (X c) (ch1 k))) (Sd := slabSet 0) (fd := f)
    (O := owe1 c) ((gW k).view.dmaCredit_pos (by decide)) (gW_sub k)) $$ [Ha Hg Hs HO]
  · isplitl [Ha]; · rw [set_aM]; iexact Ha
    isplitl [Hg]; · iexact Hg
    isplitl [Hs]; · iexact Hs
    isplitl [HO]; · iexact HO
    iapply (may_wait1 c (.dma storeS) (lv_store c ▸ Nat.zero_le 1)); iexact Hlev
  rw [read_aM, set_aM]
  iintro ⟨Hg, Ha, Hs, HO⟩
  rw [show (Pure.pure PUnit.unit : Prog (TpuEff nD τ sig (Elt F) Λ₀ .tc) PUnit) = Prog.ret PUnit.unit from rfl, wp_ret]
  imodintro
  isplitr; · iexact Hlev
  isplitl [Hg]
  · iexists _
    isplitl [Hg]; · iexact Hg
    ipureintro
    exact stepA_value X c k f hf
  isplitl [Ha]; · iexists _; iexact Ha
  isplitl [Hxk Hxr]
  · iapply (pointsTo_split_subset (Finset.subset_univ (inC k).view.set)).2
    isplitl [Hxk] <;> iassumption
  isplitl [Hl]; · iexact Hl
  isplitl [Hs]; · iexact Hs
  iexists _; iexact HO

/-- Over all trips slab 0 comes to hold device `c`'s own block of the gathered buffer. -/
theorem loopA {defs : Defs nD τ sig (Elt F) Λ₀} (c : Dev nD) (v14 v25 : BitVec 32) {α : Type}
    {kk : Unit → Prog (TpuEff nD τ sig (Elt F) Λ₀ .tc) α} {Q : α → sProp 𝕄} (f : S8x128x32768.Idx → Elt F .bf16)
    (a : Chunk F) (W : Waits sig Unit) :
    iprop(levAts L lv ∗ slabAt c 0 f ∗ pt c cc0_scratch0 a ∗ pt c main_v2 (X c) ∗ semVal (loadCell c) 0 ∗ semVal (storeCell c) 0
        ∗ owes (c : Thread nD τ) (owe1 c) W)
      ⊢ iprop((iprop(slabAt c 0 (gath X c) ∗ (∃ a, pt c cc0_scratch0 a) ∗ pt c main_v2 (X c) ∗ semVal (loadCell c) 0
            ∗ semVal (storeCell c) 0 ∗ ∃ W, owes (c : Thread nD τ) (owe1 c) W)
          -∗ wp frame (wpE defs 𝒱₀ (c : Thread nD τ) none) Set.univ (kk ⟨⟩) Q)
        -∗ wp frame (wpE defs 𝒱₀ (c : Thread nD τ) none) Set.univ
          (Scf.Loop.for k0_t1_loop k0_t1_ok ⟨⟩ (k0_t1_body xM (Memref.isWhole_whole _) oM (Memref.isWhole_whole _) gM (Memref.isWhole_whole _)
            aM (Memref.isWhole_whole _) bM (Memref.isWhole_whole _) cc0_scratch2 cc0_scratch3 cc0_scratch4 cc0_scratch5 c v14 v25 (par c)) >>= kk) Q) := by
  iintro ⟨#Hlev, Hg, Ha, Hx, Hl, Hs, HO⟩ Hk
  iapply (Scf.wp_for_bind frame (wpE defs 𝒱₀ (c : Thread nD τ) none) Set.univ _ _ _ _ _ _ (invA X c)
    (fun k acc => stepA X c v14 v25 k acc)) $$ [Hg Ha Hx Hl Hs HO]
  · unfold invA
    isplitr; · iexact Hlev
    isplitl [Hg]
    · iexists f
      isplitl [Hg]; · iexact Hg
      ipureintro
      exact fun i _ h => absurd h (Nat.not_lt_zero _)
    isplitl [Ha]; · iexists a; iexact Ha
    isplitl [Hx]; · iexact Hx
    isplitl [Hl]; · iexact Hl
    isplitl [Hs]; · iexact Hs
    iexists W; iexact HO
  iintro %acc HI
  unfold invA
  icases HI with ⟨-, ⟨%g, Hg, %hg⟩, Ha, Hx, Hl, Hs, HO⟩
  have e : (slabAt c 0 g : sProp 𝕄) ⊢ slabAt c 0 (gath X c) :=
    BIBase.Entails.of_eq (slabAt_congr c 0 fun i hi => hg i hi (lt_of_lt_of_eq (i 0).isLt trips1.symm))
  ihave Hg := e $$ Hg
  cases acc
  iapply Hk
  isplitl [Hg]; · iexact Hg
  isplitl [Ha]; · iexact Ha
  isplitl [Hx]; · iexact Hx
  isplitl [Hl]; · iexact Hl
  isplitl [Hs]; · iexact Hs
  iexact HO

end Cert.KernelIdeal.Sorted

end
-- ==== Proof.LoopB.lean ====
/-
  THE SECOND LOOP: each of the eight trips fetches a gathered chunk, merges its rows and stores the device's quarter in the output.
  Over all trips the output comes to hold `outv`.
-/
module

public import proofs.«01_k».proof.Proof.LoopA

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal.Gen

variable {F : FTy → Type} [FloatOps F]

local notation "𝕄" => MT nD τ sig Unit (Elt F) ℕ UU ℕ

/-- Loading the whole of the wide scratch … -/
theorem wp_load_b {defs : Defs nD τ sig (Elt F) Λ₀} (c : Dev nD) {hl : bM.view.LoadsAt
      (Rect.unit (s := S128x32768) ![0, 0] S128x32768.size inb_S128x32768_S128x32768_0_0).toLoadRect}
    {α : Type} {k : Wide F → Prog (TpuEff nD τ sig (Elt F) Λ₀ .tc) α} {Q : α → sProp 𝕄} (f : Wide F) :
    pt c cc0_scratch1 f ⊢ iprop((pt c cc0_scratch1 f -∗ wp frame (wpE defs 𝒱₀ (c : Thread nD τ) none) Set.univ (k f) Q)
      -∗ wp frame (wpE defs 𝒱₀ (c : Thread nD τ) none) Set.univ (.op (.load bM
          (Rect.unit (s := S128x32768) ![0, 0] S128x32768.size inb_S128x32768_S128x32768_0_0).toLoadRect hl) k) Q) := by
  have e : bM.view.readAt (Elt F) (Rect.unit (s := S128x32768) ![0, 0] S128x32768.size inb_S128x32768_S128x32768_0_0).toLoadRect f = f :=
    Memref.readAt_unit_zero (Elt F) cc0_scratch1 (by funext a; revert a; decide) _ f
  iintro H Hk
  iapply (wp_load 𝒱₀ (c : Thread nD τ) none Set.univ (Finset.subset_univ _)) $$ H
  rw [e]; iexact Hk

/-- … and storing to it. -/
theorem wp_store_b {defs : Defs nD τ sig (Elt F) Λ₀} (c : Dev nD) {w : Wide F} {hx} {hm}
    {α : Type} {k : PUnit → Prog (TpuEff nD τ sig (Elt F) Λ₀ .tc) α} {Q : α → sProp 𝕄} (f : Wide F) :
    pt c cc0_scratch1 f ⊢ iprop((pt c cc0_scratch1 w -∗ wp frame (wpE defs 𝒱₀ (c : Thread nD τ) none) Set.univ (k ⟨⟩) Q)
      -∗ wp frame (wpE defs 𝒱₀ (c : Thread nD τ) none) Set.univ (.op (.store bM
          (Rect.unit (s := S128x32768) ![0, 0] S128x32768.size inb_S128x32768_S128x32768_0_0) w Finset.univ hx hm) k) Q) := by
  have e : (bM.access (Rect.unit (s := S128x32768) ![0, 0] S128x32768.size inb_S128x32768_S128x32768_0_0)).write (Elt F) f w Finset.univ = w :=
    Memref.write_access_unit_zero_univ (Elt F) cc0_scratch1 (by funext a; revert a; decide) _ f w
  iintro H Hk
  iapply (wp_store 𝒱₀ (c : Thread nD τ) none Set.univ (m := bM)
    (r := Rect.unit (s := S128x32768) ![0, 0] S128x32768.size inb_S128x32768_S128x32768_0_0) (Finset.subset_univ _)) $$ H
  rw [e]; iexact Hk

theorem write_bM (f w : Wide F) : bM.view.write (Elt F) f w Finset.univ = w := View.write_whole_univ _ _ _

variable (X : Dev nD → S8x128x8192.Idx → Elt F .bf16)

/-- After `n` trips the output holds `outv` on the chunks below `n`. -/
def invB (c : Dev nD) (n : ℕ) (_ : Unit) : sProp 𝕄 :=
  iprop((∃ f, pt c main_v3_0 f ∗ ⌜∀ i : S8x128x8192.Idx, (i 0).val < n → f i = outv X c i⌝) ∗ (∃ b, pt c cc0_scratch1 b)
    ∗ pt c main_v3_1 (gath X c) ∗ semVal (loadCell c) 0 ∗ semVal (storeCell c) 0 ∗ ∃ W, owes (c : Thread nD τ) 0 W)

/-- The output after one more chunk. -/
theorem stepB_value (c : Dev nD) (k : Fin k0_t5_loop.trips) (f : S8x128x8192.Idx → Elt F .bf16)
    (hf : ∀ i : S8x128x8192.Idx, (i 0).val < k.val → f i = outv X c i) (i : S8x128x8192.Idx) (hk : (i 0).val < k.val + 1) :
    (oC k).view.write (Elt F) f ((sQ c).view.read (Elt F) (mergeTail (wideOf (gath X c) (ch5 k)))) Finset.univ i = outv X c i := by
  by_cases e : (i 0).val = k.val
  · have ei : i = ix3 (ch5 k) (i 1) (i 2) := by
      refine (eq_ix3 i).trans ?_
      congr 1
      exact Fin.ext e
    rw [ei]
    exact (write_oC_at k f _ (i 1) (i 2)).trans (read_sQ c (mergeTail (wideOf (gath X c) (ch5 k))) (i 1) (i 2))
  · exact (write_oC_off k f _ i e).trans (hf i (by omega))

/-- One trip. -/
theorem stepB {defs : Defs nD τ sig (Elt F) Λ₀} (c : Dev nD) (v2 v25 : BitVec 32) (k : Fin k0_t5_loop.trips) (acc : Unit) :
    invB X c k.val acc ⊢ wp frame (wpE defs 𝒱₀ (c : Thread nD τ) none) Set.univ
      (k0_t5_body xM (Memref.isWhole_whole _) oM (Memref.isWhole_whole _) gM (Memref.isWhole_whole _) aM (Memref.isWhole_whole _)
        bM (Memref.isWhole_whole _) cc0_scratch2 cc0_scratch3 cc0_scratch4 cc0_scratch5 c v2 v25 k acc) (invB X c (k.val + 1)) := by
  unfold k0_t5_body
  simp only [t6_eq, Prog.lift, Prog.bind_op, Prog.bind_ret, load_sem, store_sem, pay6_eq]
  unfold invB
  iintro ⟨⟨%f, Ho, %hf⟩, ⟨%b, Hb⟩, Hg, Hl, Hs, ⟨%W, HO⟩⟩
  ihave Hg' := (pointsTo_split_subset (Finset.subset_univ (gR k).view.set)).1 $$ Hg
  icases Hg' with ⟨Hgk, Hgr⟩
  iapply (wp_copy_wait c (src := gR k) (dst := bM) (sem := loadS) (fs := gath X c) (Sd := Finset.univ) (fd := b) (O := 0) (W := W)
    (bM.view.dmaCredit_pos (by decide)) (Finset.subset_univ _)) $$ [Hgk Hb Hl HO]
  · isplitl [Hgk]; · iexact Hgk
    isplitl [Hb]; · iexact Hb
    isplitl [Hl]; · iexact Hl
    isplitl [HO]; · iexact HO
    rw [MayWait_zero]; iempintro
  rw [read_gR, write_bM]
  iintro ⟨Hb, Hgk, Hl, HO⟩
  iapply (wp_load_b c (wideOf (gath X c) (ch5 k))) $$ Hb
  iintro Hb
  iapply (wp_load_b c (wideOf (gath X c) (ch5 k))) $$ Hb
  iintro Hb
  iapply (wp_store_b c (wideOf (gath X c) (ch5 k))) $$ Hb
  iintro Hb
  ihave Hb' := (pointsTo_split_subset (Finset.subset_univ (sQ c).view.set)).1 $$ Hb
  icases Hb' with ⟨Hbq, Hbr⟩
  iapply (wp_copy_wait c (src := sQ c) (dst := oC k) (sem := storeS) (fs := mergeTail (wideOf (gath X c) (ch5 k))) (Sd := Finset.univ) (fd := f)
    (O := 0) ((oC k).view.dmaCredit_pos (by decide)) (Finset.subset_univ _)) $$ [Hbq Ho Hs HO]
  · isplitl [Hbq]; · iexact Hbq
    isplitl [Ho]; · iexact Ho
    isplitl [Hs]; · iexact Hs
    isplitl [HO]; · iexact HO
    rw [MayWait_zero]; iempintro
  iintro ⟨Ho, Hbq, Hs, HO⟩
  rw [show (Pure.pure PUnit.unit : Prog (TpuEff nD τ sig (Elt F) Λ₀ .tc) PUnit) = Prog.ret PUnit.unit from rfl, wp_ret]
  imodintro
  isplitl [Ho]
  · iexists _
    isplitl [Ho]; · iexact Ho
    ipureintro
    exact stepB_value X c k f hf
  isplitl [Hbq Hbr]
  · iexists _
    iapply (pointsTo_split_subset (Finset.subset_univ (sQ c).view.set)).2
    isplitl [Hbq] <;> iassumption
  isplitl [Hgk Hgr]
  · iapply (pointsTo_split_subset (Finset.subset_univ (gR k).view.set)).2
    isplitl [Hgk] <;> iassumption
  isplitl [Hl]; · iexact Hl
  isplitl [Hs]; · iexact Hs
  iexists _; iexact HO

/-- Over all trips the output comes to hold `outv`. -/
theorem loopB {defs : Defs nD τ sig (Elt F) Λ₀} (c : Dev nD) (v2 v25 : BitVec 32) {α : Type}
    {kk : Unit → Prog (TpuEff nD τ sig (Elt F) Λ₀ .tc) α} {Q : α → sProp 𝕄} (f : S8x128x8192.Idx → Elt F .bf16)
    (b : Wide F) (W : Waits sig Unit) :
    iprop(pt c main_v3_0 f ∗ pt c cc0_scratch1 b ∗ pt c main_v3_1 (gath X c) ∗ semVal (loadCell c) 0 ∗ semVal (storeCell c) 0
        ∗ owes (c : Thread nD τ) 0 W)
      ⊢ iprop((iprop(pt c main_v3_0 (outv X c) ∗ (∃ b, pt c cc0_scratch1 b) ∗ pt c main_v3_1 (gath X c) ∗ semVal (loadCell c) 0
            ∗ semVal (storeCell c) 0 ∗ ∃ W, owes (c : Thread nD τ) 0 W)
          -∗ wp frame (wpE defs 𝒱₀ (c : Thread nD τ) none) Set.univ (kk ⟨⟩) Q)
        -∗ wp frame (wpE defs 𝒱₀ (c : Thread nD τ) none) Set.univ
          (Scf.Loop.for k0_t5_loop k0_t5_ok ⟨⟩ (k0_t5_body xM (Memref.isWhole_whole _) oM (Memref.isWhole_whole _) gM (Memref.isWhole_whole _)
            aM (Memref.isWhole_whole _) bM (Memref.isWhole_whole _) cc0_scratch2 cc0_scratch3 cc0_scratch4 cc0_scratch5 c v2 v25) >>= kk) Q) := by
  iintro ⟨Ho, Hb, Hg, Hl, Hs, HO⟩ Hk
  iapply (Scf.wp_for_bind frame (wpE defs 𝒱₀ (c : Thread nD τ) none) Set.univ _ _ _ _ _ _ (invB X c)
    (fun k acc => stepB X c v2 v25 k acc)) $$ [Ho Hb Hg Hl Hs HO]
  · unfold invB
    isplitl [Ho]
    · iexists f
      isplitl [Ho]; · iexact Ho
      ipureintro
      exact fun i h => absurd h (Nat.not_lt_zero _)
    isplitl [Hb]; · iexists b; iexact Hb
    isplitl [Hg]; · iexact Hg
    isplitl [Hl]; · iexact Hl
    isplitl [Hs]; · iexact Hs
    iexists W; iexact HO
  iintro %acc HI
  unfold invB
  icases HI with ⟨⟨%g, Ho, %hg⟩, Hb, Hg, Hl, Hs, HO⟩
  have e : g = outv X c := funext fun i => hg i (lt_of_lt_of_eq (i 0).isLt trips5.symm)
  subst e
  cases acc
  iapply Hk
  isplitl [Ho]; · iexact Ho
  isplitl [Hb]; · iexact Hb
  isplitl [Hg]; · iexact Hg
  isplitl [Hl]; · iexact Hl
  isplitl [Hs]; · iexact Hs
  iexact HO

end Cert.KernelIdeal.Sorted

end
-- ==== Proof.Hop.lean ====
/-
  ONE HOP OF THE RING: a slab goes to the right neighbour; the device waits for the send and for what the left neighbour sent. Stated
  for a symbolic hop, it is used three times.
-/
module

public import proofs.«01_k».proof.Proof.Proto

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal.Gen

variable {F : FTy → Type} [FloatOps F]

local notation "𝕄" => MT nD τ sig Unit (Elt F) ℕ UU ℕ

variable (X : Dev nD → S8x128x8192.Idx → Elt F .bf16)

/-- What landed in the right neighbour's slab is that neighbour's gathered block there. -/
theorem landed (c : Dev nD) (h : Fin 3) (fd : S8x128x32768.Idx → Elt F .bf16) :
    (slabAt (rt c) h.succ ((slab h.succ).view.write (Elt F) fd ((slab h.castSucc).view.read (Elt F) (gath X c)) Finset.univ) : sProp 𝕄)
      = slabAt (rt c) h.succ (gath X (rt c)) :=
  slabAt_congr (rt c) h.succ fun i hi => hop_eq X c h.castSucc h.succ rfl fd i hi

/-- The cells a hop uses, as device `c` knows them. -/
def hopInvs (K : GSem nD τ sig → ℕ) (c : Dev nD) (h : Fin 3) : sProp 𝕄 :=
  iprop(cellInv ER (sched X) (K (sendCell c h)) (sendCell c h) ∗ cellInv ER (sched X) (K (recvCell c h)) (recvCell c h)
    ∗ cellInv ER (sched X) (K (recvCell (rt c) h)) (recvCell (rt c) h))
instance hopInvs_persistent (K : GSem nD τ sig → ℕ) (c : Dev nD) (h : Fin 3) : BI.Persistent (hopInvs X K c h) := by
  unfold hopInvs; infer_instance

/-- What a hop starts from: its own slab filled, the neighbour's slab in hand, the tokens of the two duties, its places at its two cells
    and the credit for the arrival. -/
def hopPre (c : Dev nD) (h : Fin 3) : sProp 𝕄 :=
  iprop(slabAt c h.castSucc (gath X c) ∗ (∃ f, slabAt (rt c) h.succ f) ∗ (dutyTok ER (sendCell c h) 0 false ∗ dutyTok ER (recvCell (rt c) h) 0 false)
    ∗ (atPos ER (sendCell c h) 0 ∅ 0 ∗ reached ER (sendCell c h) 0) ∗ (atPos ER (recvCell c h) 0 ∅ 0 ∗ reached ER (recvCell (rt c) h) 0)
    ∗ cred (tallyAt (recvCell c h) () N))

/-- What it ends with: the slab back, the next one filled, both counters at zero. -/
def hopPost (c : Dev nD) (h : Fin 3) : sProp 𝕄 :=
  iprop(slabAt c h.castSucc (gath X c) ∗ slabAt c h.succ (gath X c) ∗ semVal (sendCell c h) 0 ∗ semVal (recvCell c h) 0)

theorem wp_hop {defs : Defs nD τ sig (Elt F) Λ₀} (K : GSem nD τ sig → ℕ) (c p : Dev nD) (hp : p = rt c) (h : Fin 3) {hsc} {e1} {e2} {e3} {e4} {e5} {e6} {e7}
    {α : Type} {k : PUnit → Prog (TpuEff nD τ sig (Elt F) Λ₀ .tc) α} {Q : α → sProp 𝕄} {O : CellTallies nD τ sig Unit} {W : Waits sig Unit}
    (m1 : (levAts L lv : sProp 𝕄) ⊢ MayWait (c : Thread nD τ) (.dma (sendS h)) () O)
    (m2 : (levAts L lv : sProp 𝕄) ⊢ MayWait (c : Thread nD τ) (.dma (recvS h)) () O) :
    iprop(hopInvs X K c h ∗ levAts L lv ∗ hopPre X c h ∗ owes (c : Thread nD τ) (O + tallyAt (recvCell (rt c) h) () N) W)
      ⊢ iprop((iprop(hopPost X c h ∗ ∃ W, owes (c : Thread nD τ) O W) -∗ wp frame (wpE defs 𝒱₀ (c : Thread nD τ) none) Set.univ (k ⟨⟩) Q)
        -∗ wp frame (wpE defs 𝒱₀ (c : Thread nD τ) none) Set.univ
          (.op (.enqueueDma (slab h.castSucc) (.remote (p : Thread nD τ) (slab h.succ) (.dma (sendS h)) hsc) (.dma (recvS h)) e1 e2 e3)
            fun _ => .op (.waitDma2 (sendS h) (slab h.succ) (slab h.castSucc) e4 e5)
            fun _ => .op (.waitDma2 (recvS h) (slab h.castSucc) (slab h.succ) e6 e7) k) Q) := by
  subst hp
  unfold hopInvs hopPre hopPost
  iintro ⟨⟨#Is, #Ir, #In⟩, #Hlev, ⟨Hslab, ⟨%fd, Hn⟩, ⟨Ht1, Ht2⟩, ⟨Hps, #Hrs⟩, ⟨Hpr, #Hrn⟩, Hcr⟩, HO⟩ Hk
  iapply (Rounds.wp_send_pointsTo 𝒱₀ ER (sched X) (c : Thread nD τ) none (c' := (rt c : Thread nD τ)) (src := slab h.castSucc) (dst := slab h.succ)
      (sS := .dma (sendS h)) (sem := .dma (recvS h)) (q := fullShare) (fs := gath X c) (κ₁ := K (sendCell c h)) (κ₂ := K (recvCell (rt c) h))
      (r₁ := 0) (r₂ := 0) (d₁ := false) (d₂ := false) (fd := fd)
      (by rw [duties_send]; exact Finset.mem_singleton_self _) (by rw [duties_recv]; exact Finset.mem_singleton_self _)
      () () N rfl (amount_send X c h false) (amount_recv X (rt c) h false) O rfl (W := W)
      (BIBase.Entails.of_eq (payload_send X c h false).symm)
      (BIBase.Entails.of_eq ((landed X c h fd).trans (payload_recv X (rt c) h false).symm))) $$ [Hslab Hn HO Ht1 Ht2]
  · isplitr; · iexact Is
    isplitr; · iexact In
    isplitl [Hslab]; · iexact Hslab
    isplitl [Hn]; · iexact Hn
    isplitl [HO]; · iexact HO
    isplitl [Ht1]; · iexact Ht1
    isplitr; · iexact Hrs
    isplitl [Ht2]; · iexact Ht2
    iexact Hrn
  iintro ⟨Hcs, HO⟩
  iapply (Rounds.wp_wait_rest_token 𝒱₀ ER (sched X) (c : Thread nD τ) none (κ := K (sendCell c h))
      (wpE_waitDma2_eq (src := slab h.succ) (dst := slab h.castSucc) 𝒱₀ (c : Thread nD τ) none Set.univ) (Set.mem_univ _) () (O := O) (W := W) (R := 0) (m := 0) (T := ∅)
      ((Nat.zero_add _).trans (expect_send X c h).symm)) $$ [Hcs HO Hps]
  · isplitr; · iexact Is
    isplitl [Hcs]; · iexact Hcs
    isplitl [HO]; · iexact HO
    isplitr; · iapply m1; iexact Hlev
    iexact Hps
  iintro ⟨HO, Hps, -, Hpay⟩
  ihave Hslab := (BIBase.Entails.of_eq (rest_send X c h)) $$ Hpay
  iapply (Rounds.wp_wait_rest_token 𝒱₀ ER (sched X) (c : Thread nD τ) none (κ := K (recvCell c h))
      (wpE_waitDma2_eq (src := slab h.castSucc) (dst := slab h.succ) 𝒱₀ (c : Thread nD τ) none Set.univ) (Set.mem_univ _) () (O := O) (R := 0) (m := 0) (T := ∅)
      ((Nat.zero_add _).trans (expect_recv X c h).symm)) $$ [Hcr HO Hpr]
  · isplitr; · iexact Ir
    isplitl [Hcr]; · iexact Hcr
    isplitl [HO]; · iexact HO
    isplitr; · iapply m2; iexact Hlev
    iexact Hpr
  iintro ⟨HO, Hpr, -, Hpay⟩
  ihave Hnext := (BIBase.Entails.of_eq (rest_recv X c h)) $$ Hpay
  imod (close X (K (sendCell c h)) (sendCell c h)) $$ [Hps] with Hsv
  · isplitr; · iexact Is
    iexact Hps
  imod (close X (K (recvCell c h)) (recvCell c h)) $$ [Hpr] with Hrv
  · isplitr; · iexact Ir
    iexact Hpr
  iapply Hk
  isplitr [HO]
  · isplitl [Hslab]; · iexact Hslab
    isplitl [Hnext]; · iexact Hnext
    isplitl [Hsv] <;> iassumption
  iexists _; iexact HO

end Cert.KernelIdeal.Sorted

end
-- ==== Proof.Body.lean ====
/-
  THE BODY, run once at a symbolic device: the barrier with both neighbours, the first loop, three hops, the second loop.
-/
module

public import proofs.«01_k».proof.Proof.LoopB
public import proofs.«01_k».proof.Proof.Hop
public import proofs.«01_k».proof.Proof.Gen.KernelIdeal.Points

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal.Gen

variable {F : FTy → Type} [FloatOps F]

local notation "𝕄" => MT nD τ sig Unit (Elt F) ℕ UU ℕ

theorem send_sem0 : ((cc0_scratch2.slice (Rect.unit (s := S3) ![0] ![1] inb_S3_S1_0)).squeeze S_ squeezes_S1_S_).sem = sendS 0 := rfl
theorem send_sem1 : ((cc0_scratch2.slice (Rect.unit (s := S3) ![1] ![1] inb_S3_S1_1)).squeeze S_ squeezes_S1_S_).sem = sendS 1 := rfl
theorem send_sem2 : ((cc0_scratch2.slice (Rect.unit (s := S3) ![2] ![1] inb_S3_S1_2)).squeeze S_ squeezes_S1_S_).sem = sendS 2 := rfl
theorem recv_sem0 : ((cc0_scratch3.slice (Rect.unit (s := S3) ![0] ![1] inb_S3_S1_0)).squeeze S_ squeezes_S1_S_).sem = recvS 0 := rfl
theorem recv_sem1 : ((cc0_scratch3.slice (Rect.unit (s := S3) ![1] ![1] inb_S3_S1_1)).squeeze S_ squeezes_S1_S_).sem = recvS 1 := rfl
theorem recv_sem2 : ((cc0_scratch3.slice (Rect.unit (s := S3) ![2] ![1] inb_S3_S1_2)).squeeze S_ squeezes_S1_S_).sem = recvS 2 := rfl
theorem bar_sem : (SemArray.scalar (sig.barrier 0 rfl) : Sems sig S_).sem = barrier0 := rfl
theorem one_word : (1#32 : BitVec 32).toInt = ((1 : ℕ) : ℤ) := by decide
theorem two_word : (2#32 : BitVec 32).toInt = ((2 : ℕ) : ℤ) := by decide

/-- The parity word, as the kernel computes it. -/
theorem parity (d : Dev nD) :
    (let v2 : BitVec 32 := Scalar.remsi (Scalar.divsi (Dev.word d) 1#32) 4#32
     let v27 : BitVec 32 := Scalar.select (Scalar.cmpi .eq 2#32 0#32) 1#32 2#32
     let v28 : BitVec 32 := Scalar.remsi v2 v27
     Scalar.select (Scalar.andi (Scalar.xori (Scalar.cmpi .slt v28 0#32) (Scalar.cmpi .slt v27 0#32)) (Scalar.cmpi .ne v28 0#32))
       (Scalar.addi v28 v27) v28) = par d := by
  revert d; decide

/-- The first part reads the device and computes words; the first of its results is the device, the last the parity. -/
theorem part1_run : ∃ r : Dev nD → (Σ' (_ : Dev nD) (_ : BitVec 32) (_ : BitVec 32) (_ : BitVec 32), BitVec 32),
    k0_part1 (F := F) xM (Memref.isWhole_whole _) oM (Memref.isWhole_whole _) gM (Memref.isWhole_whole _) aM (Memref.isWhole_whole _)
        bM (Memref.isWhole_whole _) cc0_scratch2 cc0_scratch3 cc0_scratch4 cc0_scratch5 = .op .deviceId (fun d => .ret (r d))
      ∧ ∀ d, (r d).1 = d ∧ (r d).2.2.2.2 = par d := by
  rw [k0_part1_eq_skeleton]
  exact ⟨_, rfl, fun d => ⟨rfl, parity d⟩⟩

variable (X : Dev nD → S8x128x8192.Idx → Elt F .bf16)

/-- What the body starts from … -/
def bodyPre (K : GSem nD τ sig → ℕ) (c : Dev nD) (W : Waits sig Unit) : sProp 𝕄 :=
  iprop(opened X K c ∗ credits c ∗ levAts L lv ∗ (semVal (loadCell c) 0 ∗ semVal (storeCell c) 0) ∗ pt c main_v2 (X c)
    ∗ (∃ f, pt c main_v3_0 f) ∗ (∃ f, pt c main_v3_1 f) ∗ (∃ a, pt c cc0_scratch0 a) ∗ (∃ b, pt c cc0_scratch1 b)
    ∗ owes (c : Thread nD τ) (O₀ c) W)

/-- … and what it ends with. -/
def bodyPost (c : Dev nD) : sProp 𝕄 :=
  iprop(semVal (barCell c) 0 ∗ (tri (fun h => semVal (sendCell c h) 0) ∗ tri (fun h => semVal (recvCell c h) 0))
    ∗ (semVal (loadCell c) 0 ∗ semVal (storeCell c) 0) ∗ pt c main_v2 (X c) ∗ pt c main_v3_0 (outv X c) ∗ pt c main_v3_1 (gath X c)
    ∗ (∃ a, pt c cc0_scratch0 a) ∗ (∃ b, pt c cc0_scratch1 b) ∗ ∃ W, owes (c : Thread nD τ) 0 W)

theorem may_wait0 (c : Dev nD) (sm : SemLoc sig) : (levAts L lv : sProp 𝕄) ⊢ MayWait (c : Thread nD τ) sm () 0 := by
  rw [MayWait_zero]; iintro -; iempintro

set_option maxRecDepth 65536 in
theorem body_run {defs : Defs nD τ sig (Elt F) Λ₀} (K : GSem nD τ sig → ℕ) (c : Dev nD) (W : Waits sig Unit) (t : Fin cfg0.N) (Kt : PUnit → sProp 𝕄) :
    iprop(bodyPre X K c W ∗ (bodyPost X c -∗ Kt ⟨⟩)) ⊢ wp frame (wpE defs 𝒱₀ (c : Thread nD τ) none) Set.univ (bodyAt0 t) Kt := by
  obtain ⟨r, e1, hr⟩ := part1_run (F := F)
  unfold bodyAt0
  rw [cc0__body_eq_skeleton]
  unfold cc0__body_skel
  rw [e1]
  simp only [Prog.bind_op, Prog.bind_ret, wp_deviceId]
  obtain ⟨hr1, hr2⟩ := hr c
  generalize r c = w at hr1 hr2 ⊢
  obtain ⟨d, w2, w14, w25, w35⟩ := w
  dsimp only at hr1 hr2 ⊢
  replace hr1 := hr1.symm
  subst hr1

  subst hr2
  rw [k0_part2_eq_skeleton, k0_part3_eq_skeleton, k0_part4_eq_skeleton]
  unfold k0_part2_skel k0_part3_skel k0_part4_skel
  simp only [Prog.lift, semSignalWord, semWaitWord, Prog.bind_op, Prog.bind_ret, send_sem0, send_sem1, send_sem2, recv_sem0, recv_sem1,
    recv_sem2, bar_sem, one_word, two_word, dev1_eq, dev2_eq, Prog.pure_eq_ret, bind_assoc]
  unfold bodyPre bodyPost opened invs credits dues tri
  iintro ⟨⟨⟨⟨⟨#IB, #IBl, #IBr⟩, ⟨#IS0, #IS1, #IS2⟩, ⟨#IR0, #IR1, #IR2⟩, ⟨#IN0, #IN1, #IN2⟩⟩, HpB, ⟨⟨HpS0, HpS1, HpS2⟩, ⟨HpR0, #HrR0⟩, ⟨HpR1, #HrR1⟩, ⟨HpR2, #HrR2⟩⟩,
      ⟨#HrBl, #HrBr⟩, ⟨HtL, HtR⟩, ⟨HtS0, HtS1, HtS2⟩, ⟨HtN0, HtN1, HtN2⟩⟩, ⟨HcB, HcR0, HcR1, HcR2⟩, #Hlev, ⟨Hl, Hs⟩, Hx, ⟨%fo, Ho⟩, ⟨%fg, Hg⟩, ⟨%a, Ha⟩, ⟨%b, Hb⟩, HO⟩, Hk⟩
  ihave Hg := (BIBase.Entails.of_eq (slabs_eq c fg)) $$ Hg
  icases Hg with ⟨Hg0, Hg1, Hg2, Hg3⟩
  -- the left neighbour's barrier: hands over slabs 1, 2, 3
  iapply (Rounds.wp_signal 𝒱₀ ER (sched X) (c : Thread nD τ) none (dst := (lt c : Thread nD τ)) (sem := barrier0) (r := 0) (d := false) (κ := K (barCell (lt c)))
      (by rw [duties_bar]; decide) (amount_bar X (lt c) false) () (oweB c) rfl) $$ [HO HtL Hg1 Hg2 Hg3]
  · isplitr; · iexact IBl
    isplitl [HO]; · iexact HO
    isplitl [HtL]; · iexact HtL
    isplitl [Hg1 Hg2 Hg3]
    · rw [payload_false]; unfold barPay tri; rw [rt_lt]
      isplitl [Hg1 Hg2 Hg3]
      · isplitl [Hg1]; · iexists fg; iexact Hg1
        isplitl [Hg2]; · iexists fg; iexact Hg2
        iexists fg; iexact Hg3
      isplitr; · iexact HrR0
      isplitr; · iexact HrR1
      iexact HrR2
    iexact HrBl
  iintro HO
  -- the right neighbour's: hands over nothing
  iapply (Rounds.wp_signal 𝒱₀ ER (sched X) (c : Thread nD τ) none (dst := (rt c : Thread nD τ)) (sem := barrier0) (r := 0) (d := true) (κ := K (barCell (rt c)))
      (by rw [duties_bar]; decide) (amount_bar X (rt c) true) () (owe1 c) rfl) $$ [HO HtR]
  · isplitr; · iexact IBr
    isplitl [HO]; · iexact HO
    isplitl [HtR]; · iexact HtR
    isplitr; · rw [payload_true]; iempintro
    iexact HrBr
  iintro HO
  -- both signals in: the right neighbour's slabs 1, 2, 3 are in hand
  iapply (Rounds.wp_wait_rest_token 𝒱₀ ER (sched X) (c : Thread nD τ) none (κ := K (barCell c))
      (wpE_semWait_eq 𝒱₀ (c : Thread nD τ) none Set.univ) (Set.mem_univ _) () (O := owe1 c) (W := W) (R := 0) (m := 0) (T := ∅)
      ((Nat.zero_add 2).trans (expect_bar X c).symm)) $$ [HcB HO HpB]
  · isplitr; · iexact IB
    isplitl [HcB]; · iexact HcB
    isplitl [HO]; · iexact HO
    isplitr; · iapply (may_wait1 c (.reg barrier0) (Nat.le_refl 1)); iexact Hlev
    iexact HpB
  iintro ⟨HO, HpB, -, Hpay⟩
  ihave Hp := (BIBase.Entails.of_eq (rest_bar X c)) $$ Hpay
  unfold barPay tri
  icases Hp with ⟨⟨⟨Hn1, Hn2, Hn3⟩, ⟨#HrN0, #HrN1, #HrN2⟩⟩, -⟩
  imod (close X (K (barCell c)) (barCell c)) $$ [HpB] with HvB
  · isplitr; · iexact IB
    iexact HpB
  -- slab 0
  iapply (loopA X c w14 w25 fg a) $$ [Hg0 Ha Hx Hl Hs HO]
  · isplitr; · iexact Hlev
    isplitl [Hg0]; · iexact Hg0
    isplitl [Ha]; · iexact Ha
    isplitl [Hx]; · iexact Hx
    isplitl [Hl]; · iexact Hl
    isplitl [Hs] <;> iassumption
  iintro ⟨Hg0, Ha, Hx, Hl, Hs, ⟨%W1, HO⟩⟩
  -- three hops
  iapply (wp_hop X K c _ (dev3_eq c) 0 (O := owe2 c) (W := W1) (may_wait2 c _ ((lv_send c 0).le.trans (Nat.zero_le 2)))
    (may_wait2 c _ (lv_recv c 0).le)) $$ [Hg0 Hn1 HtS0 HtN0 HpS0 HpR0 HcR0 HO]
  · unfold hopInvs hopPre
    isplitr
    · isplitr; · iexact IS0
      isplitr; · iexact IR0
      iexact IN0
    isplitr; · iexact Hlev
    isplitr [HO]
    · isplitl [Hg0]; · iexact Hg0
      isplitl [Hn1]; · iexact Hn1
      isplitl [HtS0 HtN0]; · isplitl [HtS0] <;> iassumption
      isplitl [HpS0]; · iexact HpS0
      isplitl [HpR0]
      · isplitl [HpR0]; · iexact HpR0
        iexact HrN0
      iexact HcR0
    iexact HO
  unfold hopPost
  iintro ⟨⟨Hg0, Hg1, Hv0, Hw0⟩, ⟨%W2, HO⟩⟩
  iapply (wp_hop X K c _ (dev4_eq c) 1 (O := owe3 c) (W := W2) (may_wait3 c _ ((lv_send c 1).le.trans (Nat.zero_le 3)))
    (may_wait3 c _ (lv_recv c 1).le)) $$ [Hg1 Hn2 HtS1 HtN1 HpS1 HpR1 HcR1 HO]
  · unfold hopInvs hopPre
    isplitr
    · isplitr; · iexact IS1
      isplitr; · iexact IR1
      iexact IN1
    isplitr; · iexact Hlev
    isplitr [HO]
    · isplitl [Hg1]; · iexact Hg1
      isplitl [Hn2]; · iexact Hn2
      isplitl [HtS1 HtN1]; · isplitl [HtS1] <;> iassumption
      isplitl [HpS1]; · iexact HpS1
      isplitl [HpR1]
      · isplitl [HpR1]; · iexact HpR1
        iexact HrN1
      iexact HcR1
    iexact HO
  unfold hopPost
  iintro ⟨⟨Hg1, Hg2, Hv1, Hw1⟩, ⟨%W3, HO⟩⟩
  iapply (wp_hop X K c _ (dev5_eq c) 2 (O := 0) (W := W3) (may_wait0 c _) (may_wait0 c _)) $$ [Hg2 Hn3 HtS2 HtN2 HpS2 HpR2 HcR2 HO]
  · unfold hopInvs hopPre
    isplitr
    · isplitr; · iexact IS2
      isplitr; · iexact IR2
      iexact IN2
    isplitr; · iexact Hlev
    isplitr [HO]
    · isplitl [Hg2]; · iexact Hg2
      isplitl [Hn3]; · iexact Hn3
      isplitl [HtS2 HtN2]; · isplitl [HtS2] <;> iassumption
      isplitl [HpS2]; · iexact HpS2
      isplitl [HpR2]
      · isplitl [HpR2]; · iexact HpR2
        iexact HrN2
      iexact HcR2
    iexact HO
  unfold hopPost
  iintro ⟨⟨Hg2, Hg3, Hv2, Hw2⟩, ⟨%W4, HO⟩⟩
  ihave Hg := (BIBase.Entails.of_eq (slabs_eq c (gath X c)).symm) $$ [Hg0 Hg1 Hg2 Hg3]
  · isplitl [Hg0]; · iexact Hg0
    isplitl [Hg1]; · iexact Hg1
    isplitl [Hg2]; · iexact Hg2
    iexact Hg3
  -- the output
  iapply (loopB X c w2 w25 fo b) $$ [Ho Hb Hg Hl Hs HO]
  · isplitl [Ho]; · iexact Ho
    isplitl [Hb]; · iexact Hb
    isplitl [Hg]; · iexact Hg
    isplitl [Hl]; · iexact Hl
    isplitl [Hs] <;> iassumption
  iintro ⟨Ho, Hb, Hg, Hl, Hs, HO⟩
  simp only [Prog.bind_ret, wp_ret]
  imodintro
  iapply Hk
  isplitl [HvB]; · iexact HvB
  isplitl [Hv0 Hv1 Hv2 Hw0 Hw1 Hw2]
  · isplitl [Hv0 Hv1 Hv2]
    · isplitl [Hv0]; · iexact Hv0
      isplitl [Hv1] <;> iassumption
    isplitl [Hw0]; · iexact Hw0
    isplitl [Hw1] <;> iassumption
  isplitl [Hl Hs]; · isplitl [Hl] <;> iassumption
  isplitl [Hx]; · iexact Hx
  isplitl [Ho]; · iexact Ho
  isplitl [Hg]; · iexact Hg
  isplitl [Ha]; · iexact Ha
  isplitl [Hb]; · iexact Hb
  iexact HO

end Cert.KernelIdeal.Sorted

end
-- ==== Proof.Region.lean ====
/-
  THE KERNEL REGION as one segment of @main: entered with the unscoped buffers at `V₁` and the protocol's ghost state, left with the
  two results written (`V₂`), every counter of the region at zero and nothing owed.
-/
module

public import proofs.«01_k».proof.Proof.Body

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen

variable {F : FTy → Type} [FloatOps F]

local notation "𝕄" => MT nD τ sig Unit (Elt F) ℕ UU ℕ

/-! ## The buffers -/

/-- The unscoped buffers. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- Held, they are the seven points-tos. -/
theorem bufs_eq (c : Dev nD) (W : Valuation τ sig (Elt F)) : (StableHlo.held (c : Thread nD τ) bufs W : sProp 𝕄)
    = iprop(pt c main_arg0 (W main_arg0) ∗ pt c main_v1 (W main_v1) ∗ pt c main_v2 (W main_v2) ∗ pt c main_v3_0 (W main_v3_0)
      ∗ pt c main_v3_1 (W main_v3_1) ∗ pt c main_v4 (W main_v4) ∗ pt c main_v5 (W main_v5)) := by
  unfold StableHlo.held
  rw [bigSep_eq_bigSepL_of_eq [Proc.devRef .tc main_arg0, Proc.devRef .tc main_v1, Proc.devRef .tc main_v2, Proc.devRef .tc main_v3_0,
    Proc.devRef .tc main_v3_1, Proc.devRef .tc main_v4, Proc.devRef .tc main_v5] (by decide) (by decide)]
  rfl

variable (m : (ℓ : Loc nD τ sig) → Buf (Elt F) ℓ)

/-- A device's buffers at launch, when the kernel starts, when it ends, and at the end. -/
abbrev V₀ (c : Dev nD) : Valuation τ sig (Elt F) := fun b => m ((c : Dev nD), b)
abbrev V₁ (c : Dev nD) : Valuation τ sig (Elt F) := StableHlo.after (hostOps0 (F := F)) (V₀ m c)
/-- The kernel's input on each device. -/
abbrev Xin (c : Dev nD) : S8x128x8192.Idx → Elt F .bf16 := V₁ m c main_v2
abbrev V₂ (c : Dev nD) : Valuation τ sig (Elt F) :=
  Function.update (Function.update (V₁ m c) (Proc.devRef .tc main_v3_0) (outv (Xin m) c)) (Proc.devRef .tc main_v3_1) (gath (Xin m) c)
abbrev V₃ (c : Dev nD) : Valuation τ sig (Elt F) := StableHlo.after (hostOps1 (F := F)) (V₂ m c)

theorem V₂_gath (c : Dev nD) : V₂ m c main_v3_1 = gath (Xin m) c := Function.update_self ..
theorem V₂_out (c : Dev nD) : V₂ m c main_v3_0 = outv (Xin m) c := (Function.update_of_ne (by decide) ..).trans (Function.update_self ..)
theorem V₂_else (c : Dev nD) (b : Ref sig .tc) (h0 : (Proc.devRef .tc b : DevRef τ sig) ≠ Proc.devRef .tc main_v3_0)
    (h1 : (Proc.devRef .tc b : DevRef τ sig) ≠ Proc.devRef .tc main_v3_1) : V₂ m c b = V₁ m c b :=
  (Function.update_of_ne h1 ..).trans (Function.update_of_ne h0 ..)

/-! ## The region's semaphores -/

/-- Its eight DMA semaphores: three sends, three receives, the load's and the store's. -/
def osem (k : Fin 8) : SemLoc sig := .dma ⟨k.val, k.isLt⟩

/-- All eight at zero. -/
def quiet (c : Dev nD) : sProp 𝕄 :=
  iprop((tri (fun h => semVal (sendCell c h) 0) ∗ tri (fun h => semVal (recvCell c h) 0)) ∗ semVal (loadCell c) 0 ∗ semVal (storeCell c) 0)

theorem ownSems_chain (c : Dev nD) : (Pipeline.ownSems0 osem c : sProp 𝕄)
    = iprop(semVal (sendCell c 0) 0 ∗ semVal (sendCell c 1) 0 ∗ semVal (sendCell c 2) 0 ∗ semVal (recvCell c 0) 0 ∗ semVal (recvCell c 1) 0
      ∗ semVal (recvCell c 2) 0 ∗ semVal (loadCell c) 0 ∗ semVal (storeCell c) 0) :=
  bigSep_univ_eq_bigSepL [0, 1, 2, 3, 4, 5, 6, 7] (by decide) (by decide) (fun k : Fin 8 => (semVal ((c : Thread nD τ), osem k) 0 : sProp 𝕄))

theorem ownSems_quiet (c : Dev nD) : (Pipeline.ownSems0 osem c : sProp 𝕄) ⊢ quiet c := by
  rw [ownSems_chain]; unfold quiet tri
  iintro ⟨H0, H1, H2, H3, H4, H5, H6, H7⟩
  isplitl [H0 H1 H2 H3 H4 H5]
  · isplitl [H0 H1 H2]
    · isplitl [H0]; · iexact H0
      isplitl [H1] <;> iassumption
    isplitl [H3]; · iexact H3
    isplitl [H4] <;> iassumption
  isplitl [H6] <;> iassumption

theorem quiet_ownSems (c : Dev nD) : quiet c ⊢ (Pipeline.ownSems0 osem c : sProp 𝕄) := by
  rw [ownSems_chain]; unfold quiet tri
  iintro ⟨⟨⟨H0, H1, H2⟩, H3, H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The kernel's proof data -/

/-- The two scratch buffers, at contents not chosen. -/
def scratches (c : Dev nD) : sProp 𝕄 := iprop((∃ a, pt c cc0_scratch0 a) ∗ (∃ b, pt c cc0_scratch1 b))

/-- What the kernel starts with beside its scratch buffers and the unscoped buffers, and what it hands on. -/
def Xk (c : Dev nD) : sProp 𝕄 :=
  iprop((∃ K, opened (Xin m) K c) ∗ credits c ∗ levAts L lv ∗ semVal (loadCell c) 0 ∗ semVal (storeCell c) 0)
def Yk (c : Dev nD) : sProp 𝕄 := semVal (barCell c) 0

/-- The one point of the grid: everything before it, everything after it; `O₀` owed before, nothing after. -/
def dat (c : Dev nD) : Dat τ (Elt F) Unit ℕ UU ℕ cfg0 c where
  A w := w.elim0
  after w := w.elim0
  Φ t := if t.val = 0 then iprop(scratches c ∗ (∃ r, prngReg c r) ∗ StableHlo.held (c.tc : Thread nD τ) bufs (V₁ m c) ∗ Xk m c)
    else iprop(scratches c ∗ (∃ r, prngReg c r) ∗ StableHlo.held (c.tc : Thread nD τ) bufs (V₂ m c) ∗ quiet c ∗ Yk c)
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem bigSep_none {M : Type} [URA M] (Φ : Fin 0 → sProp M) : bigSep Finset.univ Φ = (BI.emp : sProp M) :=
  bigSep_univ_eq_bigSepL [] (by decide) (by decide) Φ

theorem owed_zero (c : Dev nD) : (pdats m 0 c).owed 0 = O₀ c := by
  show (if (0 : Fin (cfg0.N + 1)).val = 0 then O₀ c else 0) = O₀ c; exact if_pos rfl
theorem owed_first (c : Dev nD) : (dat m c).owed (Fin.castSucc t0_0) = O₀ c := by
  show (if (Fin.castSucc t0_0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, show cfg0.N = 1 from N_0]; exact if_neg Nat.one_ne_zero

theorem owesAt_in (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
theorem owesAt_out (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO

/-- The body meets its obligation at the one point. -/
theorem body (c : Dev nD) : BodyObligation (dat m c) defs₀ 𝒱₀ () Set.univ := fun t => by
  obtain rfl := fin_N0 t
  rw [bigSep_none, bigSep_none]
  rw [show (dat m c).Φ (Fin.castSucc t0_0) = iprop(scratches c ∗ (∃ r, prngReg c r) ∗ StableHlo.held (c.tc : Thread nD τ) bufs (V₁ m c) ∗ Xk m c) from rfl,
    show (dat m c).Φ (Fin.succ t0_0) = iprop(scratches c ∗ (∃ r, prngReg c r) ∗ StableHlo.held (c.tc : Thread nD τ) bufs (V₂ m c) ∗ quiet c ∗ Yk c) from rfl,
    bufs_eq, bufs_eq, V₂_gath, V₂_out, V₂_else m c main_arg0 (by decide) (by decide), V₂_else m c main_v1 (by decide) (by decide),
    V₂_else m c main_v2 (by decide) (by decide), V₂_else m c main_v4 (by decide) (by decide), V₂_else m c main_v5 (by decide) (by decide)]
  unfold scratches Xk Yk quiet
  iintro ⟨⟨⟨Ha, Hb⟩, Hreg, ⟨H0, H1, H2, H3, H4, H5, H6⟩, ⟨%K, Hg⟩, Hc, Hlev, Hl, Hs⟩, HO, -⟩
  ihave HO' := (owesAt_in m c _ (O₀ c) (owed_first m c)) $$ HO
  icases HO' with ⟨%W, HO⟩
  iapply (body_run (Xin m) K c W t0_0 _)
  isplitl [Hg Hc Hlev Hl Hs H2 H3 H4 Ha Hb HO]
  · unfold bodyPre
    isplitl [Hg]; · iexact Hg
    isplitl [Hc]; · iexact Hc
    isplitl [Hlev]; · iexact Hlev
    isplitl [Hl Hs]; · isplitl [Hl] <;> iassumption
    isplitl [H2]; · iexact H2
    isplitl [H3]; · iexists _; iexact H3
    isplitl [H4]; · iexists _; iexact H4
    isplitl [Ha]; · iexact Ha
    isplitl [Hb]; · iexact Hb
    iexact HO
  unfold bodyPost
  iintro ⟨HB, Hsr, Hls, H2, H3, H4, Ha, Hb, HO⟩
  isplitr [HO]
  · isplitl [Ha Hb]; · isplitl [Ha] <;> iassumption
    isplitl [Hreg]; · iexact Hreg
    isplitl [H0 H1 H2 H3 H4 H5 H6]
    · isplitl [H0]; · iexact H0
      isplitl [H1]; · iexact H1
      isplitl [H2]; · iexact H2
      isplitl [H3]; · iexact H3
      isplitl [H4]; · iexact H4
      isplitl [H5] <;> iassumption
    isplitr [HB]
    · isplitl [Hsr] <;> iassumption
    iexact HB
  isplitl [HO]; · iapply (owesAt_out m c _ 0 (owed_last m c)); iexact HO
  iempintro

/-! ## Entering and leaving -/

/-- What the launch keeps for the kernel. -/
def Tk (c : Dev nD) : sProp 𝕄 := iprop((∃ K, ghost (Xin m) K c) ∗ credits c)

/-- A transfer cell opened: its counter goes in, and the core stands at its round 0. -/
theorem open_cell (κ : ℕ) (g : GSem nD τ sig) :
    iprop(cellInv ER (sched (Xin m)) κ g ∗ openTok ER g ∗ semVal g 0) ⊢ (|={Set.univ}=> iprop(atPos ER g 0 ∅ 0 ∗ reached ER g 0) : sProp 𝕄) :=
  Rounds.cell_open ER (sched (Xin m)) (Set.mem_univ κ)

/-- Three at once. -/
theorem open_tri (κ : Fin 3 → ℕ) (g : Fin 3 → GSem nD τ sig) :
    iprop(tri (fun h => cellInv ER (sched (Xin m)) (κ h) (g h)) ∗ tri (fun h => openTok ER (g h)) ∗ tri (fun h => semVal (g h) 0))
      ⊢ (|={Set.univ}=> tri (fun h => iprop(atPos ER (g h) 0 ∅ 0 ∗ reached ER (g h) 0)) : sProp 𝕄) := by
  unfold tri
  iintro ⟨⟨I0, I1, I2⟩, ⟨O0, O1, O2⟩, S0, S1, S2⟩
  imod (open_cell m (κ 0) (g 0)) $$ [I0 O0 S0] with H0
  · isplitl [I0]; · iexact I0
    isplitl [O0] <;> iassumption
  imod (open_cell m (κ 1) (g 1)) $$ [I1 O1 S1] with H1
  · isplitl [I1]; · iexact I1
    isplitl [O1] <;> iassumption
  imod (open_cell m (κ 2) (g 2)) $$ [I2 O2 S2] with H2
  · isplitl [I2]; · iexact I2
    isplitl [O2] <;> iassumption
  imodintro
  isplitl [H0]; · iexact H0
  isplitl [H1] <;> iassumption

theorem enter (c : Dev nD) : iprop(Tk m c ∗ Pipeline.ownSems0 osem c ∗ levAts L lv) ⊢ (|={Set.univ}=> Xk m c : sProp 𝕄) := by
  refine (sep_mono_right (sep_mono_left (ownSems_quiet c))).trans ?_
  unfold Tk Xk ghost opened invs quiet
  iintro ⟨⟨⟨%K, ⟨#IB, #IS, #IR, #IN⟩, HpB, ⟨HoS, HoR⟩, Hr, Hd⟩, Hc⟩, ⟨⟨Hss, Hrs⟩, Hl, Hst⟩, Hlev⟩
  imod (open_tri m (fun h => K (sendCell c h)) (fun h => sendCell c h)) $$ [HoS Hss] with HpS
  · isplitr; · iexact IS
    isplitl [HoS] <;> iassumption
  imod (open_tri m (fun h => K (recvCell c h)) (fun h => recvCell c h)) $$ [HoR Hrs] with HpR
  · isplitr; · iexact IR
    isplitl [HoR] <;> iassumption
  imodintro
  isplitl [HpB HpS HpR Hr Hd]
  · iexists K
    isplitr
    · isplitr; · iexact IB
      isplitr; · iexact IS
      isplitr; · iexact IR
      iexact IN
    isplitl [HpB]; · iexact HpB
    isplitl [HpS HpR]; · isplitl [HpS] <;> iassumption
    isplitl [Hr] <;> iassumption
  isplitl [Hc]; · iexact Hc
  isplitl [Hlev]; · iexact Hlev
  isplitl [Hl] <;> iassumption

theorem osem_facts : Pipeline.OwnSemFacts (pcfgs (F := F) 0).spec osem := (by decide : Pipeline.OwnSemFacts cfg0.spec osem)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- All that is owed lies above level 0. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · rcases pos_O₀ h with (((rfl | rfl) | rfl) | rfl) | rfl
    all_goals refine ⟨by rw [L_tc]; exact Finset.mem_singleton_self _, ?_⟩
    · exact (lv_recv _ _).symm ▸ by decide
    · exact (lv_recv _ _).symm ▸ by decide
    · exact (lv_recv _ _).symm ▸ by decide
    · exact Nat.one_pos
    · exact Nat.one_pos
  · exact absurd h (Nat.lt_irrefl 0)

theorem scoped_eq (c : Dev nD) : (Pipeline.scopedRest (Ix := Unit) (Name := ℕ) (U := UU) (Lvl := ℕ) (Val := Elt F) (Pipeline.pin (pcfgs (F := F)) adm 0).spec c : sProp 𝕄)
    = scratches c := scopedRest0_eq c

theorem enter_inv (c : Dev nD) : iprop(Pipeline.scopedRest (Pipeline.pin (pcfgs (F := F)) adm 0).spec c ∗ (∃ r, prngReg c r) ∗ StableHlo.held (c.tc : Thread nD τ) bufs (V₁ m c) ∗ Xk m c)
    ⊢ (pdats m 0 c).Φ 0 := by
  rw [scoped_eq]
  exact BI.Entails.refl _

theorem leave_inv (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ Yk c) := by
  rw [show (pdats m 0 c).Φ (Fin.last _) = iprop(scratches c ∗ (∃ r, prngReg c r) ∗ StableHlo.held (c.tc : Thread nD τ) bufs (V₂ m c) ∗ quiet c ∗ Yk c) from rfl,
    scoped_eq]
  exact sep_mono_right (sep_mono_right (sep_mono_right (sep_mono_left (quiet_ownSems c))))

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    bufs bufs (Finset.Subset.refl _) kitP rfl (fun c => (body m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (enter m) (enter_inv m) (leave_inv m)
    (fun c => by iintro H; imodintro; iexact H)
    (fun _ => 0)
    ⟨fun _ w => w.elim0, fun _ w => w.elim0, fun c t g i h => owed_above m c t g i h⟩
    (fun _ => iprop(emp))
    (fun _ w => w.elim0) (fun _ w => w.elim0)

end Cert.KernelIdeal.Sorted

end
-- ==== Proof.Launch.lean ====
/-
  THE RUN. At the launch every cell's invariant is made, the six transfer cells of each device without their counters; each device
  gets its own places and rights, the tokens of the duties it pays and the credit it waits with. Then @main is three segments: the
  two host operations before the kernel, the kernel, the two after it.
-/
module

public import proofs.«01_k».proof.Proof.Region

@[expose] public section

noncomputable section

namespace Cert.KernelIdeal.Sorted

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## The cells and the tokens -/

/-- The six transfer semaphores: sends 0 to 2, receives 3 to 5. -/
def xsem (k : Fin 6) : SemLoc sig := .dma ⟨k.val, lt_of_lt_of_le k.isLt (by decide)⟩
theorem xsem_inj : Function.Injective xsem := by decide

def barEmb : Dev nD ↪ GSem nD τ sig := ⟨fun c => barCell c, fun _ _ h => congrArg (fun g : GSem nD τ sig => g.1.1) h⟩
def xferEmb : Dev nD × Fin 6 ↪ GSem nD τ sig :=
  ⟨fun q => ((q.1 : Thread nD τ), xsem q.2), fun _ _ h =>
    Prod.ext (congrArg (fun g : GSem nD τ sig => g.1.1) h) (xsem_inj (congrArg Prod.snd h))⟩

abbrev barCells : Finset (GSem nD τ sig) := Finset.univ.map barEmb
abbrev xferCells : Finset (GSem nD τ sig) := Finset.univ.map xferEmb
abbrev allCells : Finset (GSem nD τ sig) := barCells ∪ xferCells

/-- A device's eight duties: two at its barrier, one at each of its six transfer cells. -/
def duty : Fin 8 → SemLoc sig × Bool
  | 0 => (.reg barrier0, false)
  | 1 => (.reg barrier0, true)
  | 2 => (.dma (sendS 0), false)
  | 3 => (.dma (sendS 1), false)
  | 4 => (.dma (sendS 2), false)
  | 5 => (.dma (recvS 0), false)
  | 6 => (.dma (recvS 1), false)
  | 7 => (.dma (recvS 2), false)
theorem duty_inj : Function.Injective duty := by decide

def tokens : Finset (GSem nD τ sig × ℕ × Bool) :=
  Finset.univ.map ⟨fun q : Dev nD × Fin 8 => (((q.1 : Thread nD τ), (duty q.2).1), 0, (duty q.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

theorem cells_disjoint : Disjoint (barCells : Finset (GSem nD τ sig)) xferCells := by
  rw [Finset.disjoint_left]
  intro g hb hx
  obtain ⟨c, -, rfl⟩ := Finset.mem_map.mp hb
  obtain ⟨q, -, h⟩ := Finset.mem_map.mp hx
  exact (by decide : ∀ k : Fin 6, xsem k ≠ .reg barrier0) q.2 (congrArg Prod.snd h)

theorem bar_in (c : Dev nD) : barCell c ∈ allCells := Finset.mem_union_left _ (Finset.mem_map_of_mem barEmb (Finset.mem_univ c))
theorem send_in (c : Dev nD) (h : Fin 3) : sendCell c h ∈ allCells :=
  Finset.mem_union_right _ (Finset.mem_map_of_mem xferEmb (Finset.mem_univ (c, (⟨h.val, by omega⟩ : Fin 6))))
theorem recv_in (c : Dev nD) (h : Fin 3) : recvCell c h ∈ allCells :=
  Finset.mem_union_right _ (Finset.mem_map_of_mem xferEmb (Finset.mem_univ (c, (⟨h.val + 3, by omega⟩ : Fin 6))))

/-! ## The launch element, and how it is dealt -/

/-- What the launch makes of the protocol's algebra. -/
abbrev proto₀ : URounds (GSem nD τ sig) Bool := launchOf barCells xferCells tokens

def u₀ : UU :=
  (initOf (Pipeline.cells (Pipeline.pin (pcfgs (F := F)) adm) cellOf_inj) (Pipeline.launchToks (Pipeline.pin (pcfgs (F := F)) adm) cellOf_inj),
    (proto₀, 1))

/-- The whole of it parked on device 0 until all devices are dealt theirs together. -/
def park (c : Dev nD) : sProp 𝕄 := if c = 0 then BI.own (ER proto₀) else iprop(emp)
theorem park_all : (bigSep Finset.univ park : sProp 𝕄) = BI.own (ER proto₀) := by
  rw [bigSep_univ_at _ (0 : Dev nD), bigSep_congr (s := Finset.univ.erase 0) (Φ := park) (Ψ := fun _ => (BI.emp : sProp 𝕄))
      fun c hc => if_neg (Finset.ne_of_mem_erase hc), BI.bigSep_emp_const]
  exact BI.equiv_iff.mp sep_emp

variable (X : Dev nD → S8x128x8192.Idx → Elt F .bf16)

/-- What every device may consult: all the invariants, and that every barrier stands at its round 0. -/
def records (κ : GSem nD τ sig → ℕ) : sProp 𝕄 :=
  iprop((bigSep allCells fun g => cellInv ER (sched X) (κ g) g) ∗ bigSep barCells fun g => reached ER g 0)
instance records_persistent (κ : GSem nD τ sig → ℕ) : BI.Persistent (records X κ) := by unfold records; infer_instance

theorem inv_of (κ : GSem nD τ sig → ℕ) {g : GSem nD τ sig} (hg : g ∈ allCells) : records X κ ⊢ cellInv ER (sched X) (κ g) g := by
  have e : (bigSep allCells fun g => (cellInv ER (sched X) (κ g) g : sProp 𝕄)) ⊢ cellInv ER (sched X) (κ g) g := bigSep_elim hg
  unfold records
  iintro ⟨H, -⟩
  iapply e; iexact H
theorem reached_of (κ : GSem nD τ sig → ℕ) (c : Dev nD) : records X κ ⊢ reached ER (barCell c) 0 := by
  have e : (bigSep barCells fun g => (reached ER g 0 : sProp 𝕄)) ⊢ reached ER (barCell c) 0 :=
    bigSep_elim (Finset.mem_map_of_mem barEmb (Finset.mem_univ c))
  unfold records
  iintro ⟨-, H⟩
  iapply e; iexact H

theorem invs_of (κ : GSem nD τ sig → ℕ) (c : Dev nD) : records X κ ⊢ invs X κ c := by
  unfold invs tri
  iintro #H
  isplitr
  · isplitr; · iapply (inv_of X κ (bar_in c)); iexact H
    isplitr; · iapply (inv_of X κ (bar_in (lt c))); iexact H
    iapply (inv_of X κ (bar_in (rt c))); iexact H
  isplitr
  · isplitr; · iapply (inv_of X κ (send_in c 0)); iexact H
    isplitr; · iapply (inv_of X κ (send_in c 1)); iexact H
    iapply (inv_of X κ (send_in c 2)); iexact H
  isplitr
  · isplitr; · iapply (inv_of X κ (recv_in c 0)); iexact H
    isplitr; · iapply (inv_of X κ (recv_in c 1)); iexact H
    iapply (inv_of X κ (recv_in c 2)); iexact H
  isplitr; · iapply (inv_of X κ (recv_in (rt c) 0)); iexact H
  isplitr; · iapply (inv_of X κ (recv_in (rt c) 1)); iexact H
  iapply (inv_of X κ (recv_in (rt c) 2)); iexact H

/-- What is one device's alone. -/
def alone (c : Dev nD) : sProp 𝕄 :=
  iprop(atPos ER (barCell c) 0 ∅ 0 ∗ (tri (fun h => openTok ER (sendCell c h)) ∗ tri (fun h => openTok ER (recvCell c h))) ∗ dues c)

theorem ghost_of (κ : GSem nD τ sig → ℕ) (c : Dev nD) : iprop(records X κ ∗ alone c) ⊢ iprop(∃ K, ghost X K c) := by
  unfold alone ghost
  iintro ⟨#H, Hat, Ho, Hd⟩
  iexists κ
  isplitr; · iapply (invs_of X κ c); iexact H
  isplitl [Hat]; · iexact Hat
  isplitl [Ho]; · iexact Ho
  isplitr
  · isplitr; · iapply (reached_of X κ (lt c)); iexact H
    iapply (reached_of X κ (rt c)); iexact H
  iexact Hd

/-- The tokens of a device's own cells. -/
def toks (c : Dev nD) : sProp 𝕄 :=
  iprop(dutyTok ER (barCell c) 0 false ∗ dutyTok ER (barCell c) 0 true ∗ dutyTok ER (sendCell c 0) 0 false ∗ dutyTok ER (sendCell c 1) 0 false
    ∗ dutyTok ER (sendCell c 2) 0 false ∗ dutyTok ER (recvCell c 0) 0 false ∗ dutyTok ER (recvCell c 1) 0 false ∗ dutyTok ER (recvCell c 2) 0 false)

theorem toks_eq : bigSep tokens (fun x => (dutyTok ER x.1 x.2.1 x.2.2 : sProp 𝕄)) = bigSep Finset.univ fun c : Dev nD => toks c := by
  unfold tokens; rw [bigSep_map, bigSep_univ_prod]
  exact bigSep_congr fun c _ => by
    rw [bigSep_univ_eq_bigSepL [0, 1, 2, 3, 4, 5, 6, 7] (by decide) (by decide)]
    unfold toks; rfl

/-- One step round the ring, either way. -/
def right : Dev nD ≃ Dev nD := ⟨rt, lt, lt_rt, rt_lt⟩
def left : Dev nD ≃ Dev nD := ⟨lt, rt, rt_lt, lt_rt⟩

/-- Each token goes to the device that pays the duty. -/
theorem toks_dealt : (bigSep Finset.univ fun c : Dev nD => (toks c : sProp 𝕄)) ⊢ bigSep Finset.univ fun c : Dev nD => (dues c : sProp 𝕄) := by
  have e : ∀ (r : Dev nD ≃ Dev nD) (Φ : Dev nD → sProp 𝕄), bigSep Finset.univ Φ ⊢ bigSep Finset.univ fun c => Φ (r c) :=
    fun r Φ => Entails.of_eq (bigSep_univ_equiv r Φ)
  unfold toks dues tri
  simp only [bigSep_sep']
  iintro ⟨Hf, Ht, H0, H1, H2, G0, G1, G2⟩
  isplitl [Hf Ht]
  · isplitl [Hf]
    · iapply (e left (fun c => dutyTok ER (barCell c) 0 false)); iexact Hf
    · iapply (e right (fun c => dutyTok ER (barCell c) 0 true)); iexact Ht
  isplitl [H0 H1 H2]
  · isplitl [H0]; · iexact H0
    isplitl [H1] <;> iassumption
  isplitl [G0]; · iapply (e right (fun c => dutyTok ER (recvCell c 0) 0 false)); iexact G0
  isplitl [G1]; · iapply (e right (fun c => dutyTok ER (recvCell c 1) 0 false)); iexact G1
  iapply (e right (fun c => dutyTok ER (recvCell c 2) 0 false)); iexact G2

/-! ## The credit -/

theorem bar_eq_bar {c d : Dev nD} : barCell c = barCell d ↔ c = d :=
  ⟨fun h => congrArg (fun g : GSem nD τ sig => g.1.1) h, fun h => h ▸ rfl⟩
theorem recv_eq_recv {c d : Dev nD} {h k : Fin 3} : recvCell c h = recvCell d k ↔ c = d ∧ h = k :=
  ⟨fun e => ⟨congrArg (fun g : GSem nD τ sig => g.1.1) e,
    (by decide : ∀ a b : Fin 3, (SemLoc.dma (recvS a) : SemLoc sig) = .dma (recvS b) → a = b) h k (congrArg Prod.snd e)⟩, fun ⟨e, e'⟩ => by rw [e, e']⟩
theorem bar_ne_recv {c d : Dev nD} {k : Fin 3} : barCell c ≠ recvCell d k :=
  fun e => (by decide : ∀ b : Fin 3, (SemLoc.reg barrier0 : SemLoc sig) ≠ .dma (recvS b)) k (congrArg Prod.snd e)
theorem eq_rt {c d : Dev nD} : c = rt d ↔ d = lt c := ⟨fun h => by rw [h, lt_rt], fun h => by rw [h, rt_lt]⟩
theorem eq_lt {c d : Dev nD} : c = lt d ↔ d = rt c := ⟨fun h => by rw [h, rt_lt], fun h => by rw [h, lt_rt]⟩

theorem owed_bar (d c : Dev nD) : O₀ d (barCell c) () = (if d = lt c then 1 else 0) + if d = rt c then 1 else 0 := by
  unfold O₀ oweB owe1 owe2 owe3
  simp only [Pi.add_apply, Finsupp.add_apply, tallyAt_apply, Pi.zero_apply, Finsupp.zero_apply, bar_eq_bar, bar_ne_recv, eq_rt (c := c) (d := d), eq_lt (c := c) (d := d),
    false_and, and_true, if_false, Nat.zero_add]

theorem owed_recv (d c : Dev nD) (h : Fin 3) : O₀ d (recvCell c h) () = if d = lt c then N else 0 := by
  unfold O₀ oweB owe1 owe2 owe3
  simp only [Pi.add_apply, Finsupp.add_apply, tallyAt_apply, Pi.zero_apply, Finsupp.zero_apply, recv_eq_recv, bar_ne_recv.symm, eq_rt (c := c) (d := d),
    false_and, and_true, if_false, Nat.zero_add, Nat.add_zero]
  match h with
  | 0 => simp
  | 1 => simp
  | 2 => simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _),
    if_pos (Finset.mem_univ _)]

theorem launch_recv (c : Dev nD) (h : Fin 3) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (lt c) fun _ => N, if_pos (Finset.mem_univ _)]

/-- The four cells a device waits on with credit, named. -/
theorem credit_cells : ({SemLoc.reg barrier0, .dma (recvS 0), .dma (recvS 1), .dma (recvS 2)} : Finset (SemLoc sig)) ⊆ Finset.univ := Finset.subset_univ _

theorem credits_of (c : Dev nD) : (Pipeline.launchCred O₀ c : sProp 𝕄) ⊢ credits c := by
  unfold Pipeline.launchCred credits tri
  dsimp only
  rw [← launch_bar c, ← launch_recv c 0, ← launch_recv c 1, ← launch_recv c 2]
  refine (bigSep_subset credit_cells).trans ?_
  rw [bigSep_insert (by decide), bigSep_insert (by decide), bigSep_insert (by decide), bigSep_singleton]
  exact BI.Entails.refl _

/-! ## The segments -/

variable (m : (ℓ : Loc nD τ sig) → Buf (Elt F) ℓ) (ρ : Dev nD → PrngReg)

/-- Beside the buffers up to the kernel: what the launch keeps for it, the generator register, and what is owed. -/
def R₀ (c : Dev nD) : sProp 𝕄 := iprop(Tk m c ∗ (∃ r, prngReg c r) ∗ ∃ W, owes (c : Thread nD τ) (O₀ c) W)
/-- … and after it. -/
def R₁ (c : Dev nD) : sProp 𝕄 := iprop(Yk c ∗ ∃ W, owes (c : Thread nD τ) (0 : CellTallies nD τ sig Unit) W)

theorem pre_sub : ∀ op ∈ (hostOps0 : List (HloOp τ sig (Elt F))), op.bufs ⊆ bufs := by
  refine List.forall_iff_forall_mem.mp ⟨?_, ?_⟩
  · show ({Proc.devRef .tc main_arg0, Proc.devRef .tc main_v1} : Finset (DevRef τ sig)) ⊆ bufs; decide
  · show ({Proc.devRef .tc main_v1, Proc.devRef .tc main_v2} : Finset (DevRef τ sig)) ⊆ bufs; decide
theorem post_sub : ∀ op ∈ (hostOps1 : List (HloOp τ sig (Elt F))), op.bufs ⊆ bufs := by
  refine List.forall_iff_forall_mem.mp ⟨?_, ?_⟩
  · show ({Proc.devRef .tc main_v3_0, Proc.devRef .tc main_v4} : Finset (DevRef τ sig)) ⊆ bufs; decide
  · show ({Proc.devRef .tc main_v4, Proc.devRef .tc main_v5} : Finset (DevRef τ sig)) ⊆ bufs; decide

local notation "ℍ" => Pipeline.HostSeg (Name := ℕ) (U := UU) (pcfgs (F := F)) defs₀ 𝒱₀ L lv

def before : ℍ := Pipeline.HostSeg.ofOps _ _ _ _ _ bufs hostOps0 pre_sub (List.forall_iff_forall_mem.mp (StableHlo.forall_fresh_of_map rfl)) (V₀ m) (R₀ m)
def after : ℍ := Pipeline.HostSeg.ofOps _ _ _ _ _ bufs hostOps1 post_sub (List.forall_iff_forall_mem.mp (StableHlo.forall_fresh_of_map rfl)) (V₂ m) R₁

/-- @main as the list. -/
def segs : List (Pipeline.Seg (pcfgs (F := F)) adm (pdats m) () defs₀ 𝒱₀ L lv) := [.host (before m), .region (region m), .host (after m)]

theorem main_is (c : Dev nD) : main (F := F) c = Pipeline.Seg.run (segs m) :=
  main_segs adm (pdats m) () 𝒱₀ L lv (before m) (after m) (region m) rfl rfl c

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  exact BI.bigSep_empty

theorem region_pre (c : Dev nD) : iprop(StableHlo.held (c : Thread nD τ) bufs (V₁ m c) ∗ R₀ m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + O₀ c) Wd)
  rw [held_none, zero_add]
  unfold R₀
  iintro ⟨Hh, HT, Hp, HO⟩
  isplitr; · iempintro
  isplitl [Hp]; · iexact Hp
  isplitl [Hh]
  · isplitl [Hh]; · iexact Hh
    iempintro
  isplitl [HT] <;> iassumption

theorem region_post (c : Dev nD) : (region m).post c ⊢ iprop(StableHlo.held (c : Thread nD τ) bufs (V₂ m c) ∗ R₁ c) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig Unit) Wd) ⊢ _
  rw [held_none]
  unfold R₁
  iintro ⟨-, -, ⟨Hh, -⟩, Hb, HO⟩
  isplitl [Hh]; · iexact Hh
  isplitl [Hb] <;> iassumption

/-! ## The launch -/

abbrev T₀ (c : Dev nD) : sProp 𝕄 := iprop(StableHlo.held (c : Thread nD τ) bufs (V₀ m c) ∗ R₀ m c)
abbrev Tₙ (c : Dev nD) : sProp 𝕄 := iprop(StableHlo.held (c : Thread nD τ) bufs (V₃ m c) ∗ Yk c)

/-- What a device holds at launch that is no part of the protocol's ghost state. -/
def plain (c : Dev nD) : sProp 𝕄 :=
  iprop(StableHlo.held (c : Thread nD τ) bufs (V₀ m c) ∗ credits c ∗ owes (c : Thread nD τ) (O₀ c) ∅ ∗ ∃ r, prngReg c r)

theorem start_of (κ : GSem nD τ sig → ℕ) (c : Dev nD) : iprop(records (Xin m) κ ∗ (alone c ∗ plain m c)) ⊢ T₀ m c := by
  unfold plain T₀ R₀ Tk
  iintro ⟨#HR, Ha, Hh, Hc, HO, Hp⟩
  isplitl [Hh]; · iexact Hh
  isplitl [Ha Hc]
  · isplitl [Ha]
    · iapply (ghost_of (Xin m) κ c)
      isplitr; · iexact HR
      iexact Ha
    iexact Hc
  isplitl [Hp]; · iexact Hp
  iexists ∅; iexact HO

/-- One device's launch holdings, sorted. -/
theorem sorted_holdings (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ park c)
    ⊢ (iprop(plain m c ∗ (semVal (barCell c) 0 ∗ park c)) : sProp 𝕄) := by
  rw [show unscopedBufs c (fun b => m ((c : Thread nD τ).loc b)) = StableHlo.held (c : Thread nD τ) bufs (V₀ m c) from unscopedBufs_held c (V₀ m c),
    unscopedSems0_eq]
  unfold plain
  iintro ⟨Hh, Hs, HO, Hcr, Hp, HG⟩
  isplitl [Hh HO Hcr Hp]
  · isplitl [Hh]; · iexact Hh
    isplitl [Hcr]; · iapply (credits_of (F := F) c); iexact Hcr
    isplitl [HO]; · iexact HO
    iexists (ρ c); iexact Hp
  isplitl [Hs] <;> iassumption

theorem bar_values : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bar_places : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))

theorem rights : bigSep xferCells (fun g => (openTok ER g : sProp 𝕄))
    ⊢ bigSep Finset.univ (fun c : Dev nD => iprop(tri (fun h => openTok ER (sendCell c h)) ∗ tri (fun h => openTok ER (recvCell c h)))) := by
  rw [bigSep_map, bigSep_univ_prod]
  refine bigSep_mono fun c _ => ?_
  refine (Entails.of_eq (bigSep_univ_eq_bigSepL [0, 1, 2, 3, 4, 5] (by decide) (by decide)
    (fun k : Fin 6 => (openTok ER ((c : Thread nD τ), xsem k) : sProp 𝕄)))).trans ?_
  show iprop(openTok ER (sendCell c 0) ∗ openTok ER (sendCell c 1) ∗ openTok ER (sendCell c 2) ∗ openTok ER (recvCell c 0)
    ∗ openTok ER (recvCell c 1) ∗ openTok ER (recvCell c 2)) ⊢ _
  unfold tri
  iintro ⟨H0, H1, H2, H⟩
  isplitl [H0 H1 H2]
  · isplitl [H0]; · iexact H0
    isplitl [H1] <;> iassumption
  iexact H

/-- Two holdings of every device, apart. -/
theorem apart (Φ Ψ : Dev nD → sProp 𝕄) :
    (bigSep Finset.univ fun c => iprop(Φ c ∗ Ψ c)) = iprop(bigSep Finset.univ Φ ∗ bigSep Finset.univ Ψ) := bigSep_sep' _ _ _

/-- All devices together: the invariants made, everything dealt. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park c)) ∗ levAts L lv)
      ⊢ (|={Set.univ}=> bigSep Finset.univ (T₀ m) : sProp 𝕄) := by
  refine (sep_mono_left (bigSep_mono fun c _ => sorted_holdings m ρ c)).trans ?_
  iintro ⟨H, -⟩
  ihave H2 := (Entails.of_eq (apart _ _)) $$ H; icases H2 with ⟨HB, H3⟩
  ihave H4 := (Entails.of_eq (apart _ _)) $$ H3; icases H4 with ⟨Hv, HG⟩
  ihave Hu := (Entails.of_eq (park_all (F := F))) $$ HG
  imod (Rounds.fund_launch ER (sched (Xin m)) cells_disjoint (fun g _ h => h) tokens) $$ [Hv Hu] with ⟨%κ, -, #Hinv, #Hr, Hat, Hopen, Htok⟩
  · isplitl [Hv]
    · iapply bar_values; iexact Hv
    · iexact Hu
  imodintro
  iapply (bigSep_with_persistent (R := records (Xin m) κ) (Φ := fun c => iprop(alone c ∗ plain m c)) fun c _ => start_of m κ c)
  isplitr
  · unfold records
    isplitr; · iexact Hinv
    iexact Hr
  iapply (Entails.of_eq (apart _ _).symm)
  isplitr [HB]
  · unfold alone
    iapply (Entails.of_eq (apart _ _).symm); isplitl [Hat]; · iapply bar_places; iexact Hat
    iapply (Entails.of_eq (apart _ _).symm); isplitl [Hopen]; · iapply rights; iexact Hopen
    iapply (toks_dealt (F := F))
    iapply (Entails.of_eq (toks_eq (F := F))); iexact Htok
  · iexact HB

/-! ## The run -/

theorem arg_kept (c : Dev nD) : V₃ m c main_arg0 = m ((c : Thread nD τ).loc main_arg0) := by
  after_results
  rw [V₂_else m c main_arg0 (by decide) (by decide)]
  after_results

theorem only_barrier : ∀ sm : SemLoc sig, sm.isScoped .tc = false → sm = .reg barrier0 := by decide

set_option backward.isDefEq.respectTransparency.types false in
/-- From any memory and counters at zero, every weakly fair execution of @main on the four devices terminates; each device's argument
    is then as it was, its result is what the two operations after the kernel make of `outv`, and every counter is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v5) = V₃ m c main_v5) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := park) (u₀ := u₀ (F := F))
    (hu₀ := by
      unfold u₀
      iintro Hu
      ihave H := (ownU_pair _ _) $$ Hu
      icases H with ⟨HP, HX⟩
      imodintro
      isplitl [HP]; · iexact HP
      iapply (Entails.of_eq (park_all (F := F)).symm); iexact HX)
    (T₀ := T₀ m) (Tₙ := Tₙ m)
    (hch := by
      refine ⟨fun c => .rfl, fun c => region_pre m c, fun c => region_post m c, fun c => ?_⟩
      show iprop(StableHlo.held (c : Thread nD τ) bufs (V₃ m c) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      · iexact HO)
    (hinit := deal m ρ)
    (QY := fun c s => (s.mem ((Memref.whole main_arg0).view.loc (c : Thread nD τ)) = V₃ m c main_arg0
        ∧ s.mem ((Memref.whole main_v5).view.loc (c : Thread nD τ)) = V₃ m c main_v5) ∧ s.sem (barCell c) = 0)
    (hfin := fun c s' => by
      dsimp only [Tₙ]; unfold Yk; rw [bufs_eq]
      iintro ⟨⟨⟨H0, -, -, -, -, -, H6⟩, Hb⟩, HSI⟩
      icombine HSI H0 gives %h0
      icombine HSI H6 gives %h6
      icombine HSI Hb gives %hb
      imodintro
      isplitr
      · ipureintro
        exact ⟨⟨Buf.eq_of_forall_mem_univ h0, Buf.eq_of_forall_mem_univ h6⟩, by simpa using hb⟩
      iexact HSI)
    (hQ := fun s h hs => ⟨fun c => ⟨(h c).1.1.trans (arg_kept m c), (h c).1.2⟩,
      sem_eq_zero hs fun c sm hsm => by
        obtain rfl := only_barrier sm hsm
        exact (h c).2⟩)

end Cert.KernelIdeal.Sorted

end
-- ==== Proof.Stage.lean ====
/-
  ONE STAGE AS THE KERNEL PRINTS IT. `exch` is the printed body of the inner loops, at any row length `N = 2 ^ p`: two rotates
  bring every position its partner at distance `2 ^ s`, a select picks the right one, and the lesser or the greater of the two is
  kept under a mask made from the position. Over the reals, along each row, it is one stage of the sorting network of the library
  (`exch_row`).
-/
module

public import proofs.«01_k».proof.Proof.Vals
public import Idealize.ShloMosaic.Lib.SortNet.Printed
public import Idealize.ShloMosaic.Lib.SortNet.Sorts
public import Idealize.ShloMosaic.Lib.ValueLayout

@[expose] public section

noncomputable section

namespace Cert.KernelIdeal.Sorted

open Idealize.ShloMosaic Idealize.ShloMosaic.SortNet
open Idealize.ShloMosaic.ValueIdx
open Cert.KernelIdeal.Gen

/-- `M` rows of `N`. -/
abbrev Rows (M N : ℕ) : Shape := ⟨2, ![M, N]⟩

/-- Row `r` as a column of positions. -/
def rowCol {M N p : ℕ} (hN : N = 2 ^ p) (r : Fin M) : Column (Rows M N) 1 p where
  col i := ValueIdx.ix2 r ⟨i.val, hN ▸ i.isLt⟩
  size_eq := hN
  coord _ := rfl
  other i i' b hb := by
    match b, hb with
    | ⟨0, _⟩, _ => rfl
    | ⟨1, _⟩, h => exact absurd rfl h

/-- Row `r` of `M` rows of `N`, read as a vector of `2 ^ p` entries. -/
def row {M N p : ℕ} {α : Type} (hN : N = 2 ^ p) (v : (Rows M N).Idx → α) (r : Fin M) : Fin (2 ^ p) → α := fun i => v ((rowCol hN r).col i)

section Exch

variable {N : ℕ} (hI : (Rows 1 N).Iotas .tc 32 [1]) (hR : (Rows 128 N).Rotates 1 none)
  (hS : (Rows 1 N).ShapeCasts (Rows 1 N)) (hB : (Rows 1 N).Broadcasts (Rows 128 N)) (width dist size : BitVec 32) (turn : BitVec 1)

/-- Bit by bit over the positions of a row: is the bit picked out by `d` clear? -/
def clearAt (d : BitVec 32) : IVec (Rows 1 N) 1 :=
  cmpi .eq (andi (iota .tc (Rows 1 N) 32 [1] hI) (broadcast (Rows 1 N) d)) (broadcast (Rows 1 N) 0#32)

/-- The printed stage: distance word `dist`, block word `size`, the direction turned when `turn` is 1. -/
def exch {F : FTy → Type} [FloatOps F] (v : FVec F (Rows 128 N) .bf16) : FVec F (Rows 128 N) .bf16 :=
  have o : FVec F (Rows 128 N) .bf16 :=
    select (broadcastTo (Rows 128 N) (shapeCast (Rows 1 N) (clearAt hI dist) hS) hB)
      (dynamicRotate 1 (Scalar.subi width dist) none v hR) (dynamicRotate 1 dist none v hR)
  select (broadcastTo (Rows 128 N) (shapeCast (Rows 1 N)
      (xori (xori (clearAt hI dist) (xori (clearAt hI size) (broadcast (Rows 1 N) turn))) (constantI (Rows 1 N) 1 1#1)) hS) hB)
    (minimumf v o) (maximumf v o)

variable {p : ℕ} (hN : N = 2 ^ p)

/-- A bit test at a position. -/
theorem clearAt_col (hp : p ≤ 31) {s : ℕ} (d : BitVec 32) (hd : d.toNat = 2 ^ s) (i : Fin (2 ^ p)) :
    clearAt hI d ((rowCol hN (0 : Fin 1)).col i) = BitVec.ofBool (decide (i.val &&& 2 ^ s = 0)) := by
  have hi : i.val < 2 ^ 32 := Nat.lt_of_lt_of_le i.isLt (Nat.pow_le_pow_right (by decide) (by omega))
  show BitVec.ofBool (IntOp.andi (iota .tc (Rows 1 N) 32 [1] hI ((rowCol hN (0 : Fin 1)).col i)) d == 0#32) = _
  rw [(rowCol hN (0 : Fin 1)).iota_apply .tc hI i]
  congr 1
  rw [Bool.eq_iff_iff, beq_iff_eq, decide_eq_true_eq, and_distance_eq_zero_iff hi d hd]

/-- A mask of one row, spread over the rows, read at a position. -/
theorem spread_col {α : Type} (m : (Rows 1 N).Idx → α) (r : Fin 128) (i : Fin (2 ^ p)) :
    broadcastTo (Rows 128 N) (shapeCast (Rows 1 N) m hS) hB ((rowCol hN r).col i) = m ((rowCol hN (0 : Fin 1)).col i) := by
  rw [shapeCast_self]
  exact broadcastTo_1b_ab_apply m hB r _

/-- Where the two rotates and the select have brought every position its partner. -/
theorem partner_col (hp : p ≤ 31) {s : ℕ} (hs : s < p) (hw : width.toNat = 2 ^ p) (hd : dist.toNat = 2 ^ s)
    (v : FVec Ideal (Rows 128 N) .bf16) (r : Fin 128) (i : Fin (2 ^ p)) :
    select (broadcastTo (Rows 128 N) (shapeCast (Rows 1 N) (clearAt hI dist) hS) hB)
        (dynamicRotate 1 (Scalar.subi width dist) none v hR) (dynamicRotate 1 dist none v hR) ((rowCol hN r).col i)
      = row hN v r (partner p s i) := by
  have hlt : 2 ^ s < 2 ^ p := Nat.pow_lt_pow_right (by decide) hs
  have hP : 2 ^ p ≤ 2 ^ 31 := Nat.pow_le_pow_right (by decide) hp
  have hsub : (Scalar.subi width dist).toNat = 2 ^ p - 2 ^ s := by
    show (width - dist).toNat = _
    rw [BitVec.toNat_sub, hw, hd]
    omega
  show Scalar.select (broadcastTo (Rows 128 N) (shapeCast (Rows 1 N) (clearAt hI dist) hS) hB ((rowCol hN r).col i)) _ _ = _
  rw [spread_col hS hB hN, clearAt_col hI hN hp dist hd, select_ofBool]
  by_cases hi : i.val &&& 2 ^ s = 0
  · rw [decide_eq_true hi, if_pos rfl]
    exact (rowCol hN r).rotate_of_clear hs _ hsub v hR i hi
  · rw [decide_eq_false hi, if_neg Bool.false_ne_true]
    exact (rowCol hN r).rotate_of_set hs _ hd v hR i hi

/-- The lesser or the greater of two, under a mask, as the library's one select. -/
theorem keep_eq {α : Type} [LinearOrder α] (a b : α) (k : Bool) :
    (if (!k) then min a b else max a b) = if decide (b < a) = k then a else b := by
  by_cases h : b < a
  · cases k <;> simp [h, h.le]
  · cases k <;> simp [h, not_lt.mp h]

/-- THE PRINTED STAGE ALONG A ROW is a stage of the network: distance `2 ^ s`, of level `l`, the direction turned by `turn`. -/
theorem exch_row (hp : p ≤ 31) {s l : ℕ} (hs : s < p) (hsl : s ≤ l) (hw : width.toNat = 2 ^ p) (hd : dist.toNat = 2 ^ s)
    (hz : size.toNat = 2 ^ (l + 1)) (desc : Bool) (ht : turn = BitVec.ofBool desc) (v : FVec Ideal (Rows 128 N) .bf16) (r : Fin 128) :
    row hN (exch hI hR hS hB width dist size turn v) r
      = Network.apply (stage p s fun i => decide (i.val &&& 2 ^ (l + 1) = 0) == desc) (row hN v r) := by
  funext i
  have e1 : ((xori (xori (clearAt hI dist) (xori (clearAt hI size) (broadcast (Rows 1 N) turn))) (constantI (Rows 1 N) 1 1#1))
      ((rowCol hN (0 : Fin 1)).col i))
      = BitVec.ofBool (!(upperXor s (fun i : Fin (2 ^ p) => decide (i.val &&& 2 ^ (l + 1) = 0) == desc) i)) := by
    show IntOp.xori (IntOp.xori (clearAt hI dist _) (IntOp.xori (clearAt hI size _) turn)) 1#1 = _
    rw [clearAt_col hI hN hp dist hd, clearAt_col hI hN hp size hz, ht]
    unfold upperXor
    dsimp only
    generalize hb : decide (i.val &&& 2 ^ (l + 1) = 0) = b
    by_cases hi : i.val &&& 2 ^ s = 0
    · rw [decide_eq_true hi, decide_eq_false (fun h => h hi)]
      cases b <;> cases desc <;> rfl
    · rw [decide_eq_false hi, decide_eq_true hi]
      cases b <;> cases desc <;> rfl
  rw [← stage_upperXor, apply_stage_select hs _ (fun j => upperXor_partner hs _ j (sizeClear_partner hs hsl desc j)), ← keep_eq]
  show Scalar.select (broadcastTo (Rows 128 N) (shapeCast (Rows 1 N) _ hS) hB ((rowCol hN r).col i)) (min (v _) _) (max (v _) _) = _
  rw [spread_col hS hB hN, e1, select_ofBool, partner_col hI hR hS hB width dist hN hp hs hw hd]
  rfl

end Exch

end Cert.KernelIdeal.Sorted

end
-- ==== Proof.Nets.lean ====
/-
  THE TWO LOOPS ARE NETWORKS. Along every row the local sort is the bitonic sort of `2 ^ 13` positions (`localSort_row`), ascending on
  even devices and descending on odd ones; the merge is the last two levels of the ascending bitonic sort of `2 ^ 15` positions
  (`mergeTail_row`). Over the reals.
-/
module

public import proofs.«01_k».proof.Proof.Stage

@[expose] public section

noncomputable section

namespace Cert.KernelIdeal.Sorted

open Idealize.ShloMosaic Idealize.ShloMosaic.SortNet
open Cert.KernelIdeal.Gen

/-- A loop each of whose trips runs a network along a row runs the networks one after another. -/
theorem fold_row {V α : Type} [LinearOrder α] {n m : ℕ} (g : Fin n → V → V) (net : ℕ → Network m) (rd : V → Fin m → α)
    (h : ∀ k v, rd (g k v) = Network.apply (net k.val) (rd v)) (v : V) :
    rd (Scf.fold g v) = Network.apply ((List.range n).flatMap net) (rd v) := by
  rw [Scf.fold_eq, ← List.map_coe_finRange_eq_range, List.flatMap_map]
  induction List.finRange n generalizing v with
  | nil => rfl
  | cons k ks ih => rw [List.foldl_cons, ih, h, List.flatMap_cons, Network.apply_append]

/-- A loop of no trips leaves its value. -/
theorem fold_none {V : Type} {n : ℕ} (hn : n = 0) (g : Fin n → V → V) (v : V) : Scf.fold g v = v := by
  subst hn
  rw [Scf.fold_eq]
  rfl

/-- Counting the distance exponents down from `l` is the reversed list of them. -/
theorem down_eq {β : Type} (l : ℕ) (f : ℕ → List β) :
    (List.range (l + 1)).flatMap (fun j => f (l - j)) = (List.range (l + 1)).reverse.flatMap f := by
  have e : (List.range (l + 1)).reverse = (List.range (l + 1)).map (fun j => l - j) := by
    apply List.ext_getElem
    · simp
    · intro i h1 h2
      simp
  rw [e, List.flatMap_map]

/-! ## The local sort -/

theorem trips2 : k0_t2_loop.trips = 13 := by decide
theorem trips3 (k : Fin k0_t2_loop.trips) : (k0_t3_loop k).trips = k.val + 1 := by revert k; decide
theorem trips4 (k : Fin k0_t2_loop.trips) : (k0_t4_loop k).trips = 0 := by revert k; decide

/-- The distance word of the local sort at level `k`, stage `j`; its block word at level `k`. -/
def dist1 (k : Fin k0_t2_loop.trips) (j : Fin (k0_t3_loop k).trips) : BitVec 32 :=
  Scalar.shli 1#32 (Scalar.subi (Scf.iv 0#32 1#32 k) (Scf.iv 0#32 1#32 j))
def size1 (k : Fin k0_t2_loop.trips) : BitVec 32 := Scalar.shli 1#32 (Scalar.addi (Scf.iv 0#32 1#32 k) 1#32)

theorem dist1_eq (k : Fin k0_t2_loop.trips) (j : Fin (k0_t3_loop k).trips) : (dist1 k j).toNat = 2 ^ (k.val - j.val) := by
  revert k j; decide +kernel
theorem size1_eq (k : Fin k0_t2_loop.trips) : (size1 k).toNat = 2 ^ (k.val + 1) := by revert k; decide +kernel

/-- The printed stage of the local sort. -/
theorem pay1_exch {F : FTy → Type} [FloatOps F] (w : BitVec 32) (k : Fin k0_t2_loop.trips) (j : Fin (k0_t3_loop k).trips) (v : Chunk F) :
    k0_pay1 w k j v = exch (N := 8192) iota_S1x8192_d1_w32 rotates_S128x8192_d1 shapeCasts_S1x8192_S1x8192
      broadcasts_S1x8192_S128x8192 8192#32 (dist1 k j) (size1 k) (Scalar.cmpi .eq w 1#32) v := rfl

/-- A row of a chunk as `2 ^ 13` entries, a row of a wide chunk as `2 ^ 15`. -/
abbrev rowC (v : Chunk Ideal) (r : Fin 128) : Fin (2 ^ 13) → EReal := row (N := 8192) (p := 13) rfl v r
abbrev rowW (v : Wide Ideal) (r : Fin 128) : Fin (2 ^ 15) → EReal := row (N := 32768) (p := 15) rfl v r

theorem level_row (desc : Bool) (w : BitVec 32) (hw : Scalar.cmpi .eq w 1#32 = BitVec.ofBool desc) (k : Fin k0_t2_loop.trips)
    (v : Chunk Ideal) (r : Fin 128) : rowC (level w k v) r = Network.apply (levelNet 13 desc k.val) (rowC v r) := by
  have hk : k.val < 13 := trips2 ▸ k.isLt
  unfold level
  rw [fold_none (trips4 k), fold_row _ (fun j => stage 13 (k.val - j) fun i => decide (i.val &&& 2 ^ (k.val + 1) = 0) == desc)
    (fun v => rowC v r), trips3]
  · rw [down_eq k.val fun s => stage 13 s fun i => decide (i.val &&& 2 ^ (k.val + 1) = 0) == desc]
    rfl
  · intro j v
    rw [pay1_exch]
    exact exch_row (p := 13) _ _ _ _ _ _ _ _ rfl (by decide) (by omega) (by omega) (by decide) (dist1_eq k j) (size1_eq k) desc hw v r

/-- THE LOCAL SORT OF A ROW: the bitonic sort, descending where the parity word is 1. -/
theorem localSort_row (desc : Bool) (w : BitVec 32) (hw : Scalar.cmpi .eq w 1#32 = BitVec.ofBool desc) (v : Chunk Ideal) (r : Fin 128) :
    rowC (localSort w v) r = Network.apply (sortNet 13 desc) (rowC v r) := by
  unfold localSort
  rw [fold_row _ (fun k => levelNet 13 desc k) (fun v => rowC v r) (fun k v => level_row desc w hw k v r), trips2]
  rfl

/-! ## The merge -/

theorem trips6 : k0_t6_loop.trips = 2 := by decide
theorem trips7 (k : Fin k0_t6_loop.trips) : (k0_t7_loop k).trips = k.val + 13 + 1 := by revert k; decide
theorem trips8 (k : Fin k0_t6_loop.trips) : (k0_t8_loop k).trips = 0 := by revert k; decide

/-- The distance word of the merge at its trip `k`, stage `j`; its block word at trip `k`. -/
def dist2 (k : Fin k0_t6_loop.trips) (j : Fin (k0_t7_loop k).trips) : BitVec 32 :=
  Scalar.shli 1#32 (Scalar.subi (Scf.iv 13#32 1#32 k) (Scf.iv 0#32 1#32 j))
def size2 (k : Fin k0_t6_loop.trips) : BitVec 32 := Scalar.shli 1#32 (Scalar.addi (Scf.iv 13#32 1#32 k) 1#32)

theorem dist2_eq (k : Fin k0_t6_loop.trips) (j : Fin (k0_t7_loop k).trips) : (dist2 k j).toNat = 2 ^ (k.val + 13 - j.val) := by
  revert k j; decide +kernel
theorem size2_eq (k : Fin k0_t6_loop.trips) : (size2 k).toNat = 2 ^ (k.val + 13 + 1) := by revert k; decide +kernel

/-- The printed stage of the merge. -/
theorem pay4_exch {F : FTy → Type} [FloatOps F] (k : Fin k0_t6_loop.trips) (j : Fin (k0_t7_loop k).trips) (v : Wide F) :
    k0_pay4 k j v = exch (N := 32768) iota_S1x32768_d1_w32 rotates_S128x32768_d1 shapeCasts_S1x32768_S1x32768
      broadcasts_S1x32768_S128x32768 32768#32 (dist2 k j) (size2 k) 0#1 v := rfl

theorem wideLevel_row (k : Fin k0_t6_loop.trips) (v : Wide Ideal) (r : Fin 128) :
    rowW (wideLevel k v) r = Network.apply (levelNet 15 false (k.val + 13)) (rowW v r) := by
  have hk : k.val < 2 := trips6 ▸ k.isLt
  unfold wideLevel
  rw [fold_none (trips8 k), fold_row _ (fun j => stage 15 (k.val + 13 - j) fun i => decide (i.val &&& 2 ^ (k.val + 13 + 1) = 0) == false)
    (fun v => rowW v r), trips7]
  · rw [down_eq (k.val + 13) fun s => stage 15 s fun i => decide (i.val &&& 2 ^ (k.val + 13 + 1) = 0) == false]
    rfl
  · intro j v
    rw [pay4_exch]
    exact exch_row (p := 15) _ _ _ _ _ _ _ _ rfl (by decide) (by omega) (by omega) (by decide) (dist2_eq k j) (size2_eq k) false rfl v r

/-- THE MERGE OF A ROW: levels 13 and 14 of the ascending bitonic sort. -/
theorem mergeTail_row (v : Wide Ideal) (r : Fin 128) :
    rowW (mergeTail v) r = Network.apply (levelNet 15 false 14) (Network.apply (levelNet 15 false 13) (rowW v r)) := by
  unfold mergeTail
  rw [fold_row _ (fun k => levelNet 15 false (k + 13)) (fun v => rowW v r) (fun k v => wideLevel_row k v r), trips6,
    ← Network.apply_append]
  have e : (List.range 2).flatMap (fun k => levelNet 15 false (k + 13)) = levelNet 15 false 13 ++ levelNet 15 false 14 := by
    rw [List.range_succ, List.range_succ, List.range_zero]
    simp only [List.nil_append, List.cons_append, List.flatMap_cons, List.flatMap_nil, List.append_nil, Nat.zero_add, Nat.reduceAdd]
  rw [e]

end Cert.KernelIdeal.Sorted

end
-- ==== Proof.Order.lean ====
/-
  WHY THE DISTRIBUTED SORT SORTS. Four blocks of `2 ^ 13` entries, each sorted, ascending on the even devices and descending on the
  odd ones. Gathered from any device's view (slot `t` holds the block of the device `t` places to the left), neighbouring slots run
  in opposite directions, so the last two levels of the bitonic sort leave the whole ascending (`merged_monotone`); and what they
  leave is a rearrangement of all the entries (`merged_perm`). An ascending rearrangement is unique, so every device gets the same.
-/
module

public import Idealize.ShloMosaic.Lib.SortNet.Sorts
public import Mathlib.Data.List.OfFn
public import Mathlib.Logic.Equiv.Prod
public import Mathlib.Data.List.FinRange

@[expose] public section

noncomputable section

namespace Cert.KernelIdeal.Sorted

open Idealize.ShloMosaic.SortNet

variable {α : Type} [LinearOrder α]

/-- The slot of a position of the whole, and its place within the slot. -/
def place : Fin (2 ^ 15) ≃ Fin 4 × Fin (2 ^ 13) where
  toFun i := (⟨i.val / 8192, by have h : i.val < 32768 := i.isLt; omega⟩, ⟨i.val % 8192, Nat.mod_lt _ (by decide)⟩)
  invFun t := ⟨8192 * t.1.val + t.2.val, by
    have h1 := t.1.isLt
    have h2 : t.2.val < 8192 := t.2.isLt
    show _ < 32768
    omega⟩
  left_inv i := Fin.ext (Nat.div_add_mod i.val 8192)
  right_inv t := by
    have h2 : t.2.val < 8192 := t.2.isLt
    refine Prod.ext (Fin.ext ?_) (Fin.ext ?_)
    · show (8192 * t.1.val + t.2.val) / 8192 = t.1.val
      omega
    · show (8192 * t.1.val + t.2.val) % 8192 = t.2.val
      omega

theorem place_eq (i : Fin (2 ^ 15)) (t : Fin 4) (j : Fin (2 ^ 13)) (h : i.val = 8192 * t.val + j.val) : place i = (t, j) :=
  (Equiv.apply_eq_iff_eq_symm_apply place).mpr (Fin.ext h)

/-- Four blocks, one after another. -/
def whole (X : Fin 4 → Fin (2 ^ 13) → α) : Fin (2 ^ 15) → α := fun i => X (place i).1 (place i).2

/-- Four blocks as device `c` gathers them. -/
def ring (X : Fin 4 → Fin (2 ^ 13) → α) (c : Fin 4) : Fin (2 ^ 15) → α := fun i => X (c - (place i).1) (place i).2

/-- Is the device odd? -/
def odd (d : Fin 4) : Bool := decide (d.val % 2 = 1)

/-- The blocks sorted: ascending on even devices, descending on odd ones. -/
def blocks (X : Fin 4 → Fin (2 ^ 13) → α) (d : Fin 4) : Fin (2 ^ 13) → α := Network.apply (sortNet 13 (odd d)) (X d)

/-- The last two levels of the bitonic sort of the whole. -/
def merged (X : Fin 4 → Fin (2 ^ 13) → α) (c : Fin 4) : Fin (2 ^ 15) → α :=
  Network.apply (levelNet 15 false 14) (Network.apply (levelNet 15 false 13) (ring (blocks X) c))

/-! ## Two halves in opposite directions -/

/-- Two halves in opposite directions descend then ascend, or ascend then descend. -/
theorem bitonic_of_halves {q : ℕ} (v : Fin (2 ^ (q + 1)) → α)
    (h : ((Antitone fun j => v (lowerPos q j)) ∧ Monotone fun j => v (upperPos q j)) ∨
      ((Monotone fun j => v (lowerPos q j)) ∧ Antitone fun j => v (upperPos q j))) : DescAsc v := by
  have lo : ∀ i : Fin (2 ^ (q + 1)), ∀ hi : i.val < 2 ^ q, v i = v (lowerPos q ⟨i.val, hi⟩) := fun i hi => congrArg v (eq_lowerPos i hi)
  have up : ∀ i : Fin (2 ^ (q + 1)), ∀ hi : 2 ^ q ≤ i.val, v i = v (upperPos q ⟨i.val - 2 ^ q, by
      have := i.isLt; have e : 2 ^ (q + 1) = 2 ^ q * 2 := Nat.pow_succ 2 q; omega⟩) :=
    fun i hi => congrArg v (eq_upperPos i (Nat.not_lt.mpr hi))
  have cut : ∀ {i j : Fin (2 ^ (q + 1))}, i ≤ j → i.val ≤ j.val := fun h => h
  refine ⟨2 ^ q, ?_⟩
  rcases h with ⟨h1, h2⟩ | ⟨h1, h2⟩
  · refine Or.inl ⟨fun i j hij hj => ?_, fun i j hij hi => ?_⟩
    · rw [lo i (by have := cut hij; omega), lo j hj]
      exact h1 (cut hij)
    · rw [up i hi, up j (by have := cut hij; omega)]
      exact h2 (Nat.sub_le_sub_right (cut hij) _)
  · refine Or.inr ⟨fun i j hij hj => ?_, fun i j hij hi => ?_⟩
    · rw [lo i (by have := cut hij; omega), lo j hj]
      exact h1 (cut hij)
    · rw [up i hi, up j (by have := cut hij; omega)]
      exact h2 (Nat.sub_le_sub_right (cut hij) _)

/-- Pair `h` of the whole is slots `2 h` and `2 h + 1`. -/
theorem ring_lower (X : Fin 4 → Fin (2 ^ 13) → α) (c : Fin 4) (h : Fin (2 ^ (15 - (13 + 1)))) (j : Fin (2 ^ 13)) :
    ring X c (chunkPos (p := 14) (P := 15) (by decide) h (lowerPos 13 j)) = X (c - ⟨2 * h.val, by have : h.val < 2 := h.isLt; omega⟩) j := by
  have e := place_eq (chunkPos (p := 14) (P := 15) (by decide) h (lowerPos 13 j)) ⟨2 * h.val, by have : h.val < 2 := h.isLt; omega⟩ j
    (show h.val * 2 ^ 14 + j.val = 8192 * (2 * h.val) + j.val by omega)
  unfold ring
  rw [e]

theorem ring_upper (X : Fin 4 → Fin (2 ^ 13) → α) (c : Fin 4) (h : Fin (2 ^ (15 - (13 + 1)))) (j : Fin (2 ^ 13)) :
    ring X c (chunkPos (p := 14) (P := 15) (by decide) h (upperPos 13 j)) = X (c - ⟨2 * h.val + 1, by have : h.val < 2 := h.isLt; omega⟩) j := by
  have e := place_eq (chunkPos (p := 14) (P := 15) (by decide) h (upperPos 13 j)) ⟨2 * h.val + 1, by have : h.val < 2 := h.isLt; omega⟩ j
    (show h.val * 2 ^ 14 + (j.val + 2 ^ 13) = 8192 * (2 * h.val + 1) + j.val by omega)
  unfold ring
  rw [e]

/-- A block runs in its device's direction. -/
theorem blocks_dir (X : Fin 4 → Fin (2 ^ 13) → α) (d : Fin 4) :
    (odd d = true → Antitone (blocks X d)) ∧ (odd d = false → Monotone (blocks X d)) := by
  unfold blocks
  constructor
  · intro h; rw [h]; exact sortNet_apply_antitone 13 _
  · intro h; rw [h]; exact sortNet_apply_monotone 13 _

/-- Neighbouring slots hold devices of different parity. -/
theorem odd_next (c : Fin 4) (h : Fin 2) :
    odd (c - ⟨2 * h.val + 1, by omega⟩) = !odd (c - ⟨2 * h.val, by omega⟩) := by
  revert c h; decide

/-- Each pair of slots runs in opposite directions. -/
theorem pair_bitonic (X : Fin 4 → Fin (2 ^ 13) → α) (c : Fin 4) (h : Fin (2 ^ (15 - (13 + 1)))) :
    DescAsc fun j => ring (blocks X) c (chunkPos (p := 14) (P := 15) (by decide) h j) := by
  refine bitonic_of_halves (q := 13) _ ?_
  have e1 := funext (ring_lower (blocks X) c h)
  have e2 := funext (ring_upper (blocks X) c h)
  rw [e1, e2]
  have hn := odd_next c h
  cases ho : odd (c - ⟨2 * h.val, by have : h.val < 2 := h.isLt; omega⟩)
  · rw [ho] at hn
    exact Or.inr ⟨(blocks_dir X _).2 ho, (blocks_dir X _).1 hn⟩
  · rw [ho] at hn
    exact Or.inl ⟨(blocks_dir X _).1 ho, (blocks_dir X _).2 hn⟩

/-- The last two levels of an ascending bitonic sort, on a vector both of whose halves descend then ascend or ascend then descend,
    leave it ascending. -/
theorem lastTwo_monotone {q : ℕ} (v : Fin (2 ^ (q + 1 + 1)) → α)
    (hv : ∀ h : Fin (2 ^ (q + 1 + 1 - (q + 1))), DescAsc fun j => v (chunkPos (Nat.le_succ (q + 1)) h j)) :
    Monotone (Network.apply (levelNet (q + 1 + 1) false (q + 1)) (Network.apply (levelNet (q + 1 + 1) false q) v)) := by
  have one : 1 < 2 ^ (q + 1 + 1 - (q + 1)) := by
    rw [Nat.add_sub_cancel_left, Nat.pow_one]; decide
  generalize hw : Network.apply (levelNet (q + 1 + 1) false q) v = w
  have h0 : Monotone fun j => w (lowerPos (q + 1) j) := by
    have e : (fun j => w (lowerPos (q + 1) j))
        = Network.apply (mergeAscNet (q + 1)) fun j => v (chunkPos (Nat.le_succ (q + 1)) ⟨0, Nat.two_pow_pos _⟩ j) := funext fun j => by
      have a := apply_levelNet_chunkPos (Nat.le_succ (q + 1)) false v ⟨0, Nat.two_pow_pos _⟩ j
      rw [hw, if_neg (by simp), chunkPos_zero_eq_lowerPos] at a
      exact a
    rw [e]
    exact mergeAscNet_apply_monotone _ _ (hv _)
  have h1 : Antitone fun j => w (upperPos (q + 1) j) := by
    have e : (fun j => w (upperPos (q + 1) j))
        = Network.apply (mergeDescNet (q + 1)) fun j => v (chunkPos (Nat.le_succ (q + 1)) ⟨1, one⟩ j) := funext fun j => by
      have a := apply_levelNet_chunkPos (Nat.le_succ (q + 1)) false v ⟨1, one⟩ j
      rw [hw, if_pos (by simp), chunkPos_one_eq_upperPos] at a
      exact a
    rw [e]
    exact mergeDescNet_apply_antitone _ _ (hv _)
  have ht : Network.apply (levelNet (q + 1 + 1) false (q + 1)) w = Network.apply (mergeAscNet (q + 1 + 1)) w := by
    funext i
    have a := apply_levelNet_chunkPos (le_refl (q + 1 + 1)) false w ⟨0, Nat.two_pow_pos _⟩ i
    rw [if_neg (by simp)] at a
    simp only [chunkPos_self] at a
    exact a
  rw [ht]
  exact mergeAscNet_apply_monotone _ w (bitonic_of_halves w (Or.inr ⟨h0, h1⟩))

/-- THE MERGE SORTS, from every device's view. -/
theorem merged_monotone (X : Fin 4 → Fin (2 ^ 13) → α) (c : Fin 4) : Monotone (merged X c) :=
  lastTwo_monotone (q := 13) (ring (blocks X) c) fun h => pair_bitonic X c h

/-! ## A rearrangement of everything -/

/-- Counting slots to the left of `c` is its own inverse. -/
def leftOf (c : Fin 4) : Equiv.Perm (Fin 4) where
  toFun t := c - t
  invFun t := c - t
  left_inv t := by revert c t; decide
  right_inv t := by revert c t; decide

/-- What device `c` gathers is a rearrangement of the four blocks. -/
theorem ring_perm (X : Fin 4 → Fin (2 ^ 13) → α) (c : Fin 4) : ∃ σ : Equiv.Perm (Fin (2 ^ 15)), ring (blocks X) c = whole X ∘ σ := by
  choose τ hτ using fun d => Network.exists_perm (sortNet 13 (odd d)) (X d)
  refine ⟨(place.trans (Equiv.prodShear (leftOf c) fun t => τ (c - t))).trans place.symm, funext fun i => ?_⟩
  show blocks X (c - (place i).1) (place i).2
    = X (place (place.symm (c - (place i).1, τ (c - (place i).1) (place i).2))).1
        (place (place.symm (c - (place i).1, τ (c - (place i).1) (place i).2))).2
  rw [Equiv.apply_symm_apply]
  exact congrFun (hτ _) _

/-- What device `c` computes is a rearrangement of the four blocks. -/
theorem merged_perm (X : Fin 4 → Fin (2 ^ 13) → α) (c : Fin 4) : ∃ σ : Equiv.Perm (Fin (2 ^ 15)), merged X c = whole X ∘ σ := by
  obtain ⟨σ, hσ⟩ := ring_perm X c
  obtain ⟨σ1, h1⟩ := Network.exists_perm (levelNet 15 false 13) (ring (blocks X) c)
  obtain ⟨σ2, h2⟩ := Network.exists_perm (levelNet 15 false 14) (Network.apply (levelNet 15 false 13) (ring (blocks X) c))
  refine ⟨(σ2.trans σ1).trans σ, ?_⟩
  unfold merged
  rw [h2, h1, hσ]
  rfl

/-- Two ascending rearrangements of one vector are the same vector. -/
theorem ascending_unique {n : ℕ} (v : Fin n → α) (σ τ : Equiv.Perm (Fin n)) (hσ : Monotone (v ∘ σ)) (hτ : Monotone (v ∘ τ)) :
    v ∘ σ = v ∘ τ := by
  have hp : (List.ofFn (v ∘ σ)).Perm (List.ofFn (v ∘ τ)) := (Equiv.Perm.ofFn_comp_perm σ v).trans (Equiv.Perm.ofFn_comp_perm τ v).symm
  have up : ∀ w : Fin n → α, Monotone w → (List.ofFn w).Pairwise (· ≤ ·) := fun w hw => by
    rw [List.pairwise_ofFn]
    exact fun i j hij => hw (le_of_lt hij)
  exact List.ofFn_injective (List.Perm.eq_of_pairwise (le := (· ≤ ·)) (fun _ _ _ _ h1 h2 => le_antisymm h1 h2) (up _ hσ) (up _ hτ) hp)

/-- THE ONE ASCENDING REARRANGEMENT: whatever ascending rearrangement of the four blocks is given, device `c` computes it. -/
theorem merged_eq (X : Fin 4 → Fin (2 ^ 13) → α) (c : Fin 4) (τ : Equiv.Perm (Fin (2 ^ 15))) (hτ : Monotone (whole X ∘ τ)) :
    merged X c = whole X ∘ τ := by
  obtain ⟨σ, hσ⟩ := merged_perm X c
  rw [hσ]
  exact ascending_unique _ σ τ (hσ ▸ merged_monotone X c) hτ

end Cert.KernelIdeal.Sorted

end
-- ==== Proof.Value.lean ====
/-
  THE KERNEL'S RESULT OVER THE REALS, entry by entry: each device's result holds, in every column, its quarter of the ascending
  rearrangement of that column's entries over all four devices.
-/
module

public import proofs.«01_k».proof.Proof.Region
public import proofs.«01_k».proof.Proof.Nets
public import proofs.«01_k».proof.Proof.Order

@[expose] public section

noncomputable section

namespace Cert.KernelIdeal.Sorted

open Idealize.ShloMosaic Idealize.ShloMosaic.TcCoe
open Idealize.ShloMosaic.SortNet
open Cert.KernelIdeal.Gen

/-! ## The operations around the kernel -/

section Around

variable {F : FTy → Type} [FloatOps F] (m : (ℓ : Loc nD τ sig) → Buf (Elt F) ℓ)

/-- The kernel's input is the argument transposed, its columns grouped by 128. -/
theorem Xin_apply (d : Dev nD) (k : Fin 8) (r : Fin 128) (j : Fin 8192) :
    Xin m d (ValueIdx.ix3 k r j) = m ((d : Thread nD τ).loc main_arg0) (ValueIdx.ix2 j ⟨128 * k.val + r.val, by omega⟩) := by
  have e : Xin m d = shapeCast S8x128x8192 (transpose S1024x8192 [1, 0] (m ((d : Thread nD τ).loc main_arg0))
      transposes_S8192x1024_S1024x8192_1_0) shapeCasts_S1024x8192_S8x128x8192 := by
    unfold Xin
    after_results
    rfl
  rw [e, shapeCast_apply _ _ _ (ValueIdx.ix2 (⟨128 * k.val + r.val, by omega⟩ : Fin 1024) j) (by
    rw [Shape.rowMajor_val_three, Shape.rowMajor_val_two]
    show (128 * k.val + r.val) * 8192 + j.val = (k.val * 128 + r.val) * 8192 + j.val
    omega)]
  exact ValueIdx.transpose_ix2_apply _ _ _ _

/-- The result is what the kernel stored, its groups of 128 laid end to end and transposed. -/
theorem result_apply (c : Dev nD) (i : Fin 8192) (q : Fin 1024) :
    V₃ m c main_v5 (ValueIdx.ix2 i q)
      = outv (Xin m) c (ValueIdx.ix3 ⟨q.val / 128, by omega⟩ ⟨q.val % 128, by omega⟩ i) := by
  have e : V₃ m c main_v5 = transpose S8192x1024 [1, 0] (shapeCast S1024x8192 (V₂ m c main_v3_0)
      shapeCasts_S8x128x8192_S1024x8192) transposes_S1024x8192_S8192x1024_1_0 := by
    unfold V₃
    after_results
    rfl
  rw [e, V₂_out]
  refine (ValueIdx.transpose_ix2_apply _ _ _ _).trans (shapeCast_apply (s := S8x128x8192) _ _ _ _ ?_)
  rw [Shape.rowMajor_val_three, Shape.rowMajor_val_two]
  show (q.val / 128 * 128 + q.val % 128) * 8192 + i.val = q.val * 8192 + i.val
  omega

end Around

/-! ## One row of the kernel -/

/-- Row `r` of chunk `k`, on each device. -/
def rowsOf (X : Dev nD → S8x128x8192.Idx → Elt Ideal .bf16) (k : Fin 8) (r : Fin 128) : Fin 4 → Fin (2 ^ 13) → EReal :=
  fun d j => X d (ValueIdx.ix3 k r (⟨j.val, j.isLt⟩ : Fin 8192))

theorem par_odd (d : Dev nD) : Scalar.cmpi .eq (par d) 1#32 = BitVec.ofBool (odd d) := by revert d; decide

theorem back_sub (c : Dev nD) (t : Fin 4) : back c t.val = c - t := by revert c t; decide

variable (X : Dev nD → S8x128x8192.Idx → Elt Ideal .bf16) (c : Dev nD) (k : Fin 8) (r : Fin 128)

/-- The local sort of a row. -/
theorem sorted_row (d : Dev nD) : rowC (localSort (par d) (chunkOf (X d) k)) r = blocks (rowsOf X k r) d :=
  localSort_row (odd d) (par d) (par_odd d) (chunkOf (X d) k) r

/-- The gathered row. -/
theorem gathered_row : rowW (wideOf (gath X c) k) r = ring (blocks (rowsOf X k r)) c := funext fun i => by
  show rowC (localSort (par (back c (place i).1.val)) (chunkOf (X (back c (place i).1.val)) k)) r (place i).2
    = blocks (rowsOf X k r) (c - (place i).1) (place i).2
  rw [sorted_row, back_sub]

/-- What the kernel stores. -/
theorem stored_row (i : Fin 8192) : outv X c (ValueIdx.ix3 k r i)
    = merged (rowsOf X k r) c ⟨8192 * c.val + i.val, by have : c.val < 4 := c.isLt; show _ < 32768; omega⟩ := by
  have e := mergeTail_row (wideOf (gath X c) k) r
  rw [gathered_row] at e
  have hb : 8192 * c.val + i.val < 2 ^ 15 := by have : c.val < 4 := c.isLt; show _ < 32768; omega
  exact congrFun e ⟨8192 * c.val + i.val, hb⟩

/-! ## The result -/

/-- Column `q` of the whole array the four devices hold. -/
def column (A : (⟨2, ![32768, 1024]⟩ : Shape).Idx → EReal) (q : Fin 1024) : Fin (2 ^ 15) → EReal :=
  fun i => A (ValueIdx.ix2 (⟨i.val, i.isLt⟩ : Fin 32768) q)

/-- THE RESULT: when the devices hold the blocks of `A`, and `τ` puts column `q` of `A` in ascending order, then device `c` ends with
    its quarter of that order. -/
theorem result_sorted (m : (ℓ : Loc nD τ sig) → Buf (Elt Ideal) ℓ) (A : (⟨2, ![32768, 1024]⟩ : Shape).Idx → EReal)
    (hA : ∀ (d : Dev nD) (j : Fin 8192) (q : Fin 1024), m ((d : Thread nD τ).loc main_arg0) (ValueIdx.ix2 j q)
      = A (ValueIdx.ix2 (⟨d.val * 8192 + j.val, by have : d.val < 4 := d.isLt; omega⟩ : Fin 32768) q))
    (q : Fin 1024) (σ : Equiv.Perm (Fin (2 ^ 15))) (hσ : Monotone (column A q ∘ σ)) (c : Dev nD) (i : Fin 8192) :
    V₃ m c main_v5 (ValueIdx.ix2 i q)
      = column A q (σ ⟨c.val * 8192 + i.val, by have : c.val < 4 := c.isLt; show _ < 32768; omega⟩) := by
  have hw : whole (rowsOf (Xin m) ⟨q.val / 128, by omega⟩ ⟨q.val % 128, by omega⟩) = column A q := funext fun p => by
    have hp : p.val < 32768 := p.isLt
    show Xin m (place p).1 (ValueIdx.ix3 _ _ _) = _
    rw [Xin_apply, hA]
    unfold column
    congr 2
    · apply Fin.ext
      show p.val / 8192 * 8192 + p.val % 8192 = p.val
      omega
    · apply Fin.ext
      show 128 * (q.val / 128) + q.val % 128 = q.val
      omega
  rw [result_apply, stored_row, merged_eq _ c σ (hw ▸ hσ), hw]
  have hi : 8192 * c.val + i.val = c.val * 8192 + i.val := by omega
  show column A q (σ _) = _
  congr 2
  exact Fin.ext hi

end Cert.KernelIdeal.Sorted

end
-- ==== Proof.Ref.lean ====
/-
  THE REFERENCE OVER THE REALS: the one host sort puts every column in ascending order, by one and the same kind of rearrangement
  for each column.
-/
module

public import proofs.«01_k».proof.Proof.Gen.ReferenceIdeal.Run
public import Idealize.ShloMosaic.Lib.SortFacts
public import Idealize.ShloMosaic.Lib.ValueLayout
public import Idealize.ShloMosaic.Lib.IdealHost

@[expose] public section

noncomputable section

namespace Cert.ReferenceIdeal.Sorted

open Idealize.ShloMosaic Idealize.ShloMosaic.TcCoe
open Cert.ReferenceIdeal Cert.ReferenceIdeal.Gen

/-- Over the reals the sort's comparison is `<`: there is one zero, and nothing differs from itself. -/
theorem before_iff (x y : EReal) : comparator_f32_d0 (F := Ideal) x y = BitVec.ofBool (decide (x < y)) := by
  have key : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := fun z => by
    have h0 : FloatOps.ofBits (F := Ideal) .f32 0x00000000#32 = (0 : EReal) := Ideal.ofBits_zero_f32
    have h1 : FloatOps.cmpf (F := Ideal) (φ := .f32) .une z z = 0#1 := by
      show BitVec.ofBool (decide (z ≠ z)) = 0#1
      simp
    rw [h1, h0]
    show Scalar.select (BitVec.ofBool (decide (z = 0))) (0 : EReal) z = z
    by_cases h : z = 0
    · rw [h]; simp [Scalar.select]
    · simp [Scalar.select, h]
  unfold comparator_f32_d0
  dsimp only
  rw [key x, key y]
  rfl

/-- The rearrangement a column undergoes. -/
def order {n : ℕ} (v : Fin n → EReal) : Equiv.Perm (Fin n) :=
  Equiv.ofBijective (sortedFrom fun k k' => decide (v k < v k')) ⟨sortedFrom_injective _, sortedFrom_surjective _⟩

/-- It leaves the column ascending. -/
theorem order_monotone {n : ℕ} (v : Fin n → EReal) : Monotone (v ∘ order v) := by
  intro i j hij
  rcases lt_or_eq_of_le hij with h | h
  · have a := sortedFrom_noInversion (fun k k' => decide (v k < v k')) (fun k k' => decide (v k < v k'))
      (fun a b hab => by simpa using le_of_lt (of_decide_eq_true hab)) (fun a b hab => hab)
      (fun a b c hab hbc => by simp only [decide_eq_false_iff_not, not_lt] at hab hbc ⊢; exact le_trans hbc hab) i j h
    exact not_lt.mp (of_decide_eq_false a)
  · rw [h]

/-- A sort of a matrix's columns, entry by entry. -/
theorem sort_columns {a b : ℕ} {α : Type} (cmp : α → α → BitVec 1) (x : (⟨2, ![a, b]⟩ : Shape).Idx → α) (i : Fin a) (q : Fin b) :
    Host.sort ⟨2, ![a, b]⟩ 0 cmp x (ValueIdx.ix2 i q)
      = x (ValueIdx.ix2 (sortedFrom (fun k k' => cmp (x (ValueIdx.ix2 k q)) (x (ValueIdx.ix2 k' q)) == 1#1) i) q) := by
  have along : ∀ k : Fin a, Shape.Idx.along (s := ⟨2, ![a, b]⟩) (ValueIdx.ix2 i q) (0 : Fin 2) k = ValueIdx.ix2 k q := fun k => by
    funext c
    match c with
    | ⟨0, _⟩ => rfl
    | ⟨1, _⟩ => rfl
  unfold Host.sort
  rw [dif_pos (show 0 < (⟨2, ![a, b]⟩ : Shape).rank from Nat.two_pos)]
  show x (Shape.Idx.along (s := ⟨2, ![a, b]⟩) (ValueIdx.ix2 i q) (0 : Fin 2) (sortedFrom (fun k k' : Fin a =>
    cmp (x (Shape.Idx.along (s := ⟨2, ![a, b]⟩) (ValueIdx.ix2 i q) (0 : Fin 2) k))
      (x (Shape.Idx.along (s := ⟨2, ![a, b]⟩) (ValueIdx.ix2 i q) (0 : Fin 2) k')) == 1#1) i)) = _
  exact (congrArg x (along _)).trans (congrArg (fun f => x (ValueIdx.ix2 (sortedFrom f i) q))
    (funext fun k => funext fun k' => congrArg₂ (fun y z => cmp (x y) (x z) == 1#1) (along k) (along k')))

/-- Over the reals, the number of rows written in any way: each column is rearranged by its own `order`. -/
theorem sort_order {a b n : ℕ} (hn : n = a) (x : (⟨2, ![a, b]⟩ : Shape).Idx → EReal) (p : Fin n) (q : Fin b) :
    Host.sort ⟨2, ![a, b]⟩ 0 (comparator_f32_d0 (F := Ideal)) x (ValueIdx.ix2 ⟨p.val, Nat.lt_of_lt_of_eq p.isLt hn⟩ q)
      = x (ValueIdx.ix2 ⟨(order (fun k : Fin n => x (ValueIdx.ix2 ⟨k.val, Nat.lt_of_lt_of_eq k.isLt hn⟩ q)) p).val,
          Nat.lt_of_lt_of_eq (Fin.isLt _) hn⟩ q) := by
  subst hn
  have hb : (fun k k' : Fin n => comparator_f32_d0 (F := Ideal) (x (ValueIdx.ix2 k q)) (x (ValueIdx.ix2 k' q)) == 1#1)
      = fun k k' => decide (x (ValueIdx.ix2 k q) < x (ValueIdx.ix2 k' q)) := by
    funext k k'
    rw [before_iff]
    cases decide (x (ValueIdx.ix2 k q) < x (ValueIdx.ix2 k' q)) <;> rfl
  refine (sort_columns (α := EReal) (comparator_f32_d0 (F := Ideal)) x p q).trans ?_
  rw [hb]
  rfl

/-- The reference's result, entry by entry. -/
theorem result_apply {n : ℕ} (hn : n = 32768) (A : S32768x1024.Idx → Elt Ideal .bf16) (p : Fin n) (q : Fin 1024) :
    truncf (F := Ideal) .bf16 (Host.sort S32768x1024 0 comparator_f32_d0 (extf .f32 A bitsLt_bf16_f32)) bitsLt_bf16_f32
        (ValueIdx.ix2 (⟨p.val, Nat.lt_of_lt_of_eq p.isLt hn⟩ : Fin 32768) q)
      = A (ValueIdx.ix2 (⟨(order (fun k : Fin n => A (ValueIdx.ix2 (⟨k.val, Nat.lt_of_lt_of_eq k.isLt hn⟩ : Fin 32768) q)) p).val,
          Nat.lt_of_lt_of_eq (Fin.isLt _) hn⟩ : Fin 32768) q) :=
  sort_order hn A p q

end Cert.ReferenceIdeal.Sorted

end
-- ==== Proof.lean ====
/-
  THE CERTIFICATE. The kernel's run (Launch.lean `run_main`, for any float values) gives both of its frames; over the reals its
  result, entry by entry (Value.lean `result_sorted`), is the reference's (Ref.lean `result_apply`): every column of the four
  devices' array in ascending order, each device holding its quarter.
-/
module

public import proofs.«01_k».proof.Defs
public import proofs.«01_k».proof.Proof.Launch
public import proofs.«01_k».proof.Proof.Value
public import proofs.«01_k».proof.Proof.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Lib.Layout

@[expose] public section

noncomputable section

namespace Cert.Proof

open Idealize.ShloMosaic Idealize.ShloMosaic.TcCoe Idealize.SL.Sem

instance : Cert.Kernel.Facts := Cert.Kernel.Gen.facts
instance : Cert.ReferenceIdeal.Facts := Cert.ReferenceIdeal.Gen.facts

/-- The kernel as deployed terminates, leaves its argument alone and every counter at zero: its text is the idealized kernel's, whose
    run is proved for any float values. -/
theorem frame_kernel : Cert.quiescent_Kernel := fun m ρ _ =>
  (θ_run Cert.KernelIdeal.defs _ _).mono (fun _ h => ⟨fun c => (h.1 c).1, h.2⟩) (Cert.KernelIdeal.Sorted.run_main (F := Bits) m ρ)

/-- So does the idealized kernel. -/
theorem frame_kernelIdeal : Cert.quiescent_KernelIdeal := fun m ρ _ =>
  (θ_run Cert.KernelIdeal.defs _ _).mono (fun _ h => ⟨fun c => (h.1 c).1, h.2⟩) (Cert.KernelIdeal.Sorted.run_main (F := Ideal) m ρ)

/-- So does the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What both programs compute of the whole array: every column in ascending order. -/
def ascending (A : (⟨2, ![32768, 1024]⟩ : Shape).Idx → Elt Ideal .bf16) : (⟨2, ![32768, 1024]⟩ : Shape).Idx → Elt Ideal .bf16 :=
  truncf (F := Ideal) .bf16 (Host.sort Cert.ReferenceIdeal.S32768x1024 0 Cert.ReferenceIdeal.comparator_f32_d0
    (extf .f32 A Cert.ReferenceIdeal.Gen.bitsLt_bf16_f32)) Cert.ReferenceIdeal.Gen.bitsLt_bf16_f32

/-- Each device of the kernel ends with its block of it. -/
theorem kernel_value (m : (ℓ : Loc Cert.KernelIdeal.nD Cert.KernelIdeal.τ Cert.KernelIdeal.sig) → Buf (Elt Ideal) ℓ)
    (A : (⟨2, ![32768, 1024]⟩ : Shape).Idx → Elt Ideal .bf16)
    (hA : ∀ c : Dev Cert.KernelIdeal.nD,
      m ((c.tc : Thread Cert.KernelIdeal.nD Cert.KernelIdeal.τ).loc Cert.KernelIdeal.main_arg0)
        = Layout.block ⟨2, ![8192, 1024]⟩ ⟨2, ![32768, 1024]⟩ 0 4 c A) (c : Dev Cert.KernelIdeal.nD) :
    Cert.KernelIdeal.Sorted.V₃ m c Cert.KernelIdeal.main_v5 = Layout.block ⟨2, ![8192, 1024]⟩ ⟨2, ![32768, 1024]⟩ 0 4 c (ascending A) := by
  have at_ix : ∀ (B : (⟨2, ![32768, 1024]⟩ : Shape).Idx → Elt Ideal .bf16) (d : Dev Cert.KernelIdeal.nD) (j : Fin 8192) (q : Fin 1024),
      Layout.block ⟨2, ![8192, 1024]⟩ ⟨2, ![32768, 1024]⟩ 0 4 d B (by decide) (ValueIdx.ix2 j q)
        = B (ValueIdx.ix2 (⟨d.val * 8192 + j.val, by have : d.val < 4 := d.isLt; omega⟩ : Fin 32768) q) := fun B d j q =>
    congrArg B (funext fun a => match a with | ⟨0, _⟩ => rfl | ⟨1, _⟩ => rfl)
  have each : ∀ (i : Fin 8192) (q : Fin 1024), Cert.KernelIdeal.Sorted.V₃ m c Cert.KernelIdeal.main_v5 (ValueIdx.ix2 i q)
      = Layout.block ⟨2, ![8192, 1024]⟩ ⟨2, ![32768, 1024]⟩ 0 4 c (ascending A) (by decide) (ValueIdx.ix2 i q) := fun i q => by
    rw [Cert.KernelIdeal.Sorted.result_sorted m A (fun d j q => (congrFun (hA d) _).trans (at_ix A d j q)) q
      (Cert.ReferenceIdeal.Sorted.order (Cert.KernelIdeal.Sorted.column A q)) (Cert.ReferenceIdeal.Sorted.order_monotone _) c i, at_ix]
    exact (Cert.ReferenceIdeal.Sorted.result_apply (n := 2 ^ 15) rfl A _ q).symm
  funext x
  obtain ⟨i, q, rfl⟩ : ∃ (i : Fin 8192) (q : Fin 1024), x = ValueIdx.ix2 i q := ⟨_, _, ValueIdx.eq_ix2 x⟩
  exact each i q

/-- THE VALUE: over the reals every device of the kernel ends with its block of what the reference ends with. -/
theorem algebraic : Cert.algebraic_KernelIdeal_ReferenceIdeal := fun m ρ m' ρ' _ hA =>
  ⟨ascending (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (kernel_value m _ hA c), (h.1 c).1⟩)
      (Cert.KernelIdeal.Sorted.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
